-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_is_finite [hPre_scale_is_finite : Cert.Pre_scale_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scale_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_is_finite [hPre_scale_is_finite : Cert.Pre_scale_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_KeysIdeal (m : (ℓ : Loc Cert.KeysIdeal.nD Cert.KeysIdeal.τ Cert.KeysIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scale_is_finite [hKernelIdeal : Cert.KernelIdeal.Facts] [hPre_scale_is_finite : Cert.Pre_scale_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scale_is_finite [hReferenceIdeal : Cert.ReferenceIdeal.Facts] [hPre_scale_is_finite : Cert.Pre_scale_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "softmax_scale" .f32 0x3D93CD3A#32 (((Real.sqrt 192)⁻¹ : ℝ) : EReal)

def algebraic_KernelIdeal_ReferenceIdeal_pre_scale_is_finite [hKernelIdeal : Cert.KernelIdeal.Facts] [hReferenceIdeal : Cert.ReferenceIdeal.Facts] [hPre_scale_is_finite : Cert.Pre_scale_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Prep_PrepIdeal : Prop :=
  True

def algebraic_PrepIdeal_KeysIdeal [hPrepIdeal : Cert.PrepIdeal.Facts] [hKeysIdeal : Cert.KeysIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.KeysIdeal.nD Cert.KeysIdeal.τ Cert.KeysIdeal.sig) → Buf (Elt Ideal) ℓ) (g' : Dev Cert.KeysIdeal.nD → PrngReg), Pre_PrepIdeal m →
    (∀ c : Dev Cert.PrepIdeal.nD,
      m' ((c.tc : Thread Cert.KeysIdeal.nD Cert.KeysIdeal.τ).loc Cert.KeysIdeal.main_arg0) = m ((c.tc : Thread Cert.PrepIdeal.nD Cert.PrepIdeal.τ).loc Cert.PrepIdeal.main_arg0)
      ∧ m' ((c.tc : Thread Cert.KeysIdeal.nD Cert.KeysIdeal.τ).loc Cert.KeysIdeal.main_arg1) = m ((c.tc : Thread Cert.PrepIdeal.nD Cert.PrepIdeal.τ).loc Cert.PrepIdeal.main_arg1)
      ∧ m' ((c.tc : Thread Cert.KeysIdeal.nD Cert.KeysIdeal.τ).loc Cert.KeysIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.KeysIdeal.defs (F := Ideal)) (onTc (τ := Cert.KeysIdeal.τ) (Cert.KeysIdeal.main (F := Ideal))) ⟨m', fun _ => 0, g'⟩ (fun r => ∀ c : Dev Cert.KeysIdeal.nD,
          r.2.mem ((c.tc : Thread Cert.KeysIdeal.nD Cert.KeysIdeal.τ).loc Cert.KeysIdeal.main_v0_0) = v0 c
          ∧ r.2.mem ((c.tc : Thread Cert.KeysIdeal.nD Cert.KeysIdeal.τ).loc Cert.KeysIdeal.main_v0_1) = v1 c
          ∧ r.2.mem ((c.tc : Thread Cert.KeysIdeal.nD Cert.KeysIdeal.τ).loc Cert.KeysIdeal.main_arg0) = m' ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m' ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m' ((c.tc : Thread Cert.KeysIdeal.nD Cert.KeysIdeal.τ).loc Cert.KeysIdeal.main_arg2))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hKeysIdeal : Cert.KeysIdeal.Facts) (hPre_scale_is_finite : Cert.Pre_scale_is_finite.Facts),
    quiescent_Kernel (hKernel := hKernel)
    ∧ quiescent_KernelIdeal (hKernelIdeal := hKernelIdeal)
    ∧ quiescent_KernelIdeal_pre_scale_is_finite (hKernelIdeal := hKernelIdeal) (hPre_scale_is_finite := hPre_scale_is_finite)
    ∧ quiescent_ReferenceIdeal (hReferenceIdeal := hReferenceIdeal)
    ∧ quiescent_ReferenceIdeal_pre_scale_is_finite (hReferenceIdeal := hReferenceIdeal) (hPre_scale_is_finite := hPre_scale_is_finite)
    ∧ quiescent_Prep (hPrep := hPrep)
    ∧ quiescent_PrepIdeal (hPrepIdeal := hPrepIdeal)
    ∧ quiescent_KeysIdeal (hKeysIdeal := hKeysIdeal)
    ∧ preserves_Kernel_KernelIdeal
    ∧ algebraic_KernelIdeal_ReferenceIdeal_pre_scale_is_finite (hKernelIdeal := hKernelIdeal) (hReferenceIdeal := hReferenceIdeal) (hPre_scale_is_finite := hPre_scale_is_finite)
    ∧ preserves_Prep_PrepIdeal
    ∧ algebraic_PrepIdeal_KeysIdeal (hPrepIdeal := hPrepIdeal) (hKeysIdeal := hKeysIdeal)
-- ==== Pre_scale_is_finite.lean ====
abbrev S2x196608x576 : Shape := ⟨3, ![2, 196608, 576]⟩
abbrev S2x196608x512 : Shape := ⟨3, ![2, 196608, 512]⟩
abbrev S2x1x196608 : Shape := ⟨3, ![2, 1, 196608]⟩
abbrev S2x4096x512 : Shape := ⟨3, ![2, 4096, 512]⟩
abbrev S2x4096x64 : Shape := ⟨3, ![2, 4096, 64]⟩
abbrev S2x576x4096 : Shape := ⟨3, ![2, 576, 4096]⟩
abbrev S_ : Shape := ⟨0, ![]⟩

class Facts : Prop where
  bcast_S_S2x1x196608 : S_.BroadcastsInDim S2x1x196608 (![] : Fin 0 → Fin S2x1x196608.rank)
  reducesTo_S2x1x196608_S_d0_1_2 : S2x1x196608.ReducesTo [0, 1, 2] S_
  h_S_ : 0 < S_.numel

variable [Facts]

def fn {F : FTy → Type} [FloatOps F] (main_arg0 : FVec F S2x196608x576 .fp8e4m3) (main_arg1 : FVec F S2x196608x512 .fp8e5m2) (main_arg2 : FVec F S2x196608x512 .bf16) (main_arg3 : FVec F S2x1x196608 .f32) (main_arg4 : FVec F S2x1x196608 .f32) (main_arg5 : FVec F S2x1x196608 .f32) (main_arg6 : FVec F S2x4096x512 .bf16) (main_arg7 : FVec F S2x4096x64 .bf16) (main_arg8 : FVec F S2x576x4096 .bf16) : IVec S_ 1 :=
  let main_cst : FVec F S_ .f32 := constant S_ .f32 0x00000000#32
  let main_v0 : FVec F S2x1x196608 .f32 := broadcastInDim S2x1x196608 ![] bcast_S_S2x1x196608 main_cst
  let main_v1 : IVec S2x1x196608 1 := cmpf .oge main_arg5 main_v0
  let main_cst_0 : FVec F S_ .f32 := constant S_ .f32 0x7F800000#32
  let main_v2 : FVec F S2x1x196608 .f32 := broadcastInDim S2x1x196608 ![] bcast_S_S2x1x196608 main_cst_0
  let main_v3 : IVec S2x1x196608 1 := cmpf .olt main_arg5 main_v2
  let main_v4 : IVec S2x1x196608 1 := andi main_v1 main_v3
  let main_c : IVec S_ 1 := constantI S_ 1 1#1
  let main_v5 : IVec S_ 1 := (fun x v => Host.reduce IntOp.andi x v reducesTo_S2x1x196608_S_d0_1_2 h_S_) main_v4 main_c
  main_v5
-- ==== Kernel.lean ====
abbrev S2x196608x576 : Shape := ⟨3, ![2, 196608, 576]⟩
abbrev S2x196608x512 : Shape := ⟨3, ![2, 196608, 512]⟩
abbrev S2x1x196608 : Shape := ⟨3, ![2, 1, 196608]⟩
abbrev S2x4096x512 : Shape := ⟨3, ![2, 4096, 512]⟩
abbrev S2x4096x64 : Shape := ⟨3, ![2, 4096, 64]⟩
abbrev S2x576x4096 : Shape := ⟨3, ![2, 576, 4096]⟩
abbrev S2x64x4096 : Shape := ⟨3, ![2, 64, 4096]⟩
abbrev S1x1536x576 : Shape := ⟨3, ![1, 1536, 576]⟩
abbrev S1x1536x512 : Shape := ⟨3, ![1, 1536, 512]⟩
abbrev S1x1x1536 : Shape := ⟨3, ![1, 1, 1536]⟩
abbrev S1x4096x512 : Shape := ⟨3, ![1, 4096, 512]⟩
abbrev S1x4096x64 : Shape := ⟨3, ![1, 4096, 64]⟩
abbrev S1x576x4096 : Shape := ⟨3, ![1, 576, 4096]⟩
abbrev S1x64x4096 : Shape := ⟨3, ![1, 64, 4096]⟩
abbrev S576x1536 : Shape := ⟨2, ![576, 1536]⟩
abbrev S1x1536 : Shape := ⟨2, ![1, 1536]⟩
abbrev S64x1536 : Shape := ⟨2, ![64, 1536]⟩
abbrev S1x256x512 : Shape := ⟨3, ![1, 256, 512]⟩
abbrev S256x512 : Shape := ⟨2, ![256, 512]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S1x256x64 : Shape := ⟨3, ![1, 256, 64]⟩
abbrev S256x64 : Shape := ⟨2, ![256, 64]⟩
abbrev S64x256 : Shape := ⟨2, ![64, 256]⟩
abbrev S1x576x256 : Shape := ⟨3, ![1, 576, 256]⟩
abbrev S576x256 : Shape := ⟨2, ![576, 256]⟩
abbrev S1x64x256 : Shape := ⟨3, ![1, 64, 256]⟩
abbrev S256x256 : Shape := ⟨2, ![256, 256]⟩
abbrev S1x1x256 : Shape := ⟨3, ![1, 1, 256]⟩
abbrev S256x576 : Shape := ⟨2, ![256, 576]⟩
abbrev S1x256x576 : Shape := ⟨3, ![1, 256, 576]⟩

abbrev nBuf : Space → Nat
  | .hbm => 12
  | .vmem => 27
  | .smem => 0
  | _ => 0

abbrev bufTy : (tb : Table) → Fin (tcTables nBuf tb) → BufTy
  | .hbm, ⟨0, _⟩ => ⟨S2x196608x576, .fp8e4m3⟩
  | .hbm, ⟨1, _⟩ => ⟨S2x196608x512, .fp8e5m2⟩
  | .hbm, ⟨2, _⟩ => ⟨S2x196608x512, .bf16⟩
  | .hbm, ⟨3, _⟩ => ⟨S2x1x196608, .f32⟩
  | .hbm, ⟨4, _⟩ => ⟨S2x1x196608, .f32⟩
  | .hbm, ⟨5, _⟩ => ⟨S2x1x196608, .f32⟩
  | .hbm, ⟨6, _⟩ => ⟨S2x4096x512, .bf16⟩
  | .hbm, ⟨7, _⟩ => ⟨S2x4096x64, .bf16⟩
  | .hbm, ⟨8, _⟩ => ⟨S2x576x4096, .bf16⟩
  | .hbm, ⟨9, _⟩ => ⟨S2x196608x576, .bf16⟩
  | .hbm, ⟨10, _⟩ => ⟨S2x4096x512, .f32⟩
  | .hbm, ⟨11, _⟩ => ⟨S2x64x4096, .f32⟩
  | .local _ .vmem, ⟨0, _⟩ => ⟨S1x1536x576, .fp8e4m3⟩
  | .local _ .vmem, ⟨1, _⟩ => ⟨S1x1536x576, .fp8e4m3⟩
  | .local _ .vmem, ⟨2, _⟩ => ⟨S1x1536x512, .fp8e5m2⟩
  | .local _ .vmem, ⟨3, _⟩ => ⟨S1x1536x512, .fp8e5m2⟩
  | .local _ .vmem, ⟨4, _⟩ => ⟨S1x1536x512, .bf16⟩
  | .local _ .vmem, ⟨5, _⟩ => ⟨S1x1536x512, .bf16⟩
  | .local _ .vmem, ⟨6, _⟩ => ⟨S1x1x1536, .f32⟩
  | .local _ .vmem, ⟨7, _⟩ => ⟨S1x1x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x1x1536, .f32⟩
  | .local _ .vmem, ⟨11, _⟩ => ⟨S1x1x1536, .f32⟩
  | .local _ .vmem, ⟨12, _⟩ => ⟨S1x4096x512, .bf16⟩
  | .local _ .vmem, ⟨13, _⟩ => ⟨S1x4096x512, .bf16⟩
  | .local _ .vmem, ⟨14, _⟩ => ⟨S1x4096x64, .bf16⟩
  | .local _ .vmem, ⟨15, _⟩ => ⟨S1x4096x64, .bf16⟩
  | .local _ .vmem, ⟨16, _⟩ => ⟨S1x576x4096, .bf16⟩
  | .local _ .vmem, ⟨17, _⟩ => ⟨S1x576x4096, .bf16⟩
  | .local _ .vmem, ⟨18, _⟩ => ⟨S1x1536x576, .bf16⟩
  | .local _ .vmem, ⟨19, _⟩ => ⟨S1x1536x576, .bf16⟩
  | .local _ .vmem, ⟨20, _⟩ => ⟨S1x4096x512, .f32⟩
  | .local _ .vmem, ⟨21, _⟩ => ⟨S1x4096x512, .f32⟩
  | .local _ .vmem, ⟨22, _⟩ => ⟨S1x64x4096, .f32⟩
  | .local _ .vmem, ⟨23, _⟩ => ⟨S1x64x4096, .f32⟩
  | .local _ .vmem, ⟨24, _⟩ => ⟨S576x1536, .f32⟩
  | .local _ .vmem, ⟨25, _⟩ => ⟨S1x1536, .f32⟩
  | .local _ .vmem, ⟨26, _⟩ => ⟨S64x1536, .bf16⟩
  | _, _ => ⟨S2x196608x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c256_i32_84 : BitVec 32 := 256#32
  let v179 : BitVec 32 := Scalar.muli v178 c256_i32_84
  v179
def k0_off1 (i : grid0.Coords) : Fin 3 → Nat :=
  let c0_85 : Index := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c256_i32_84 : BitVec 32 := 256#32
  let v179 : BitVec 32 := Scalar.muli v178 c256_i32_84
  let v180 : BitVec 32 := v179
  let v181 : Index := Scalar.indexCast v180
  let c0_86 : Index := 0#32
  ![0, v181.toNat, 0]
def k0_off2 (i : grid0.Coords) : Fin 3 → Nat :=
  let c0_87 : Index := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c256_i32_84 : BitVec 32 := 256#32
  let v179 : BitVec 32 := Scalar.muli v178 c256_i32_84
  let v180 : BitVec 32 := v179
  let v184 : Index := Scalar.indexCast v180
  let c0_88 : Index := 0#32
  ![0, v184.toNat, 0]
def k0_off3 (i : grid0.Coords) : Fin 3 → Nat :=
  let c0_89 : Index := 0#32
  let c0_90 : Index := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c256_i32_84 : BitVec 32 := 256#32
  let v179 : BitVec 32 := Scalar.muli v178 c256_i32_84
  let v180 : BitVec 32 := v179
  let v187 : Index := Scalar.indexCast v180
  ![0, 0, v187.toNat]
def k0_off4 (i : grid0.Coords) : Fin 3 → Nat :=
  let c0_93 : Index := 0#32
  let c0_94 : Index := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c256_i32_84 : BitVec 32 := 256#32
  let v179 : BitVec 32 := Scalar.muli v178 c256_i32_84
  let v180 : BitVec 32 := v179
  let v193 : Index := Scalar.indexCast v180
  ![0, 0, v193.toNat]
@[reducible] def k0_t1_loop (i : grid0.Coords) : Scf.Loop 32 :=
  let c0_i32_393 : BitVec 32 := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c0_i32_387 : BitVec 32 := 0#32
  let v780 : BitVec 32 := Scalar.subi v178 c0_i32_387
  let c1_i32_388 : BitVec 32 := 1#32
  let c1_i32_389 : BitVec 32 := 1#32
  let v781 : BitVec 32 := Scalar.subi c1_i32_388 c1_i32_389
  let v782 : BitVec 32 := Scalar.addi v780 v781
  let c1_i32_390 : BitVec 32 := 1#32
  let v783 : BitVec 32 := Scalar.divsi v782 c1_i32_390
  let v784 : BitVec 32 := Scalar.subi v783 c0_i32_393
  let c1_i32_394 : BitVec 32 := 1#32
  let v786 : BitVec 32 := Scalar.divsi v784 c1_i32_394
  let v787 : BitVec 32 := Scalar.muli v786 c1_i32_394
  let v788 : BitVec 32 := Scalar.addi c0_i32_393 v787
  let c1_i32_395 : BitVec 32 := 1#32
  ⟨c0_i32_393, v788, c1_i32_395⟩
def k0_mult2 (i : grid0.Coords) (k0_t1 : Fin (k0_t1_loop i).trips) : BitVec 32 :=
  let c0_i32_392 : BitVec 32 := 0#32
  let c0_i32_393 : BitVec 32 := 0#32
  let c1_i32_395 : BitVec 32 := 1#32
  let arg17 : BitVec 32 := Scf.iv c0_i32_393 c1_i32_395 k0_t1
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  v827
def k0_off5 (i : grid0.Coords) (k0_t1 : Fin (k0_t1_loop i).trips) : Fin 3 → Nat :=
  let c0_428 : Index := 0#32
  let c0_i32_392 : BitVec 32 := 0#32
  let c0_i32_393 : BitVec 32 := 0#32
  let c1_i32_395 : BitVec 32 := 1#32
  let arg17 : BitVec 32 := Scf.iv c0_i32_393 c1_i32_395 k0_t1
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v829 : Index := Scalar.indexCast v828
  let c0_429 : Index := 0#32
  ![0, v829.toNat, 0]
def k0_off6 (i : grid0.Coords) (k0_t1 : Fin (k0_t1_loop i).trips) : Fin 3 → Nat :=
  let c0_430 : Index := 0#32
  let c0_i32_392 : BitVec 32 := 0#32
  let c0_i32_393 : BitVec 32 := 0#32
  let c1_i32_395 : BitVec 32 := 1#32
  let arg17 : BitVec 32 := Scf.iv c0_i32_393 c1_i32_395 k0_t1
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v832 : Index := Scalar.indexCast v828
  let c0_431 : Index := 0#32
  ![0, v832.toNat, 0]
def k0_off7 (i : grid0.Coords) (k0_t1 : Fin (k0_t1_loop i).trips) : Fin 3 → Nat :=
  let c0_432 : Index := 0#32
  let c0_433 : Index := 0#32
  let c0_i32_392 : BitVec 32 := 0#32
  let c0_i32_393 : BitVec 32 := 0#32
  let c1_i32_395 : BitVec 32 := 1#32
  let arg17 : BitVec 32 := Scf.iv c0_i32_393 c1_i32_395 k0_t1
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v835 : Index := Scalar.indexCast v828
  ![0, 0, v835.toNat]
def k0_off8 (i : grid0.Coords) (k0_t1 : Fin (k0_t1_loop i).trips) : Fin 3 → Nat :=
  let c0_436 : Index := 0#32
  let c0_437 : Index := 0#32
  let c0_i32_392 : BitVec 32 := 0#32
  let c0_i32_393 : BitVec 32 := 0#32
  let c1_i32_395 : BitVec 32 := 1#32
  let arg17 : BitVec 32 := Scf.iv c0_i32_393 c1_i32_395 k0_t1
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v841 : Index := Scalar.indexCast v828
  ![0, 0, v841.toNat]
@[reducible] def k0_t2_loop (i : grid0.Coords) : Scf.Loop 32 :=
  let c0_i32_393 : BitVec 32 := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c0_i32_387 : BitVec 32 := 0#32
  let v780 : BitVec 32 := Scalar.subi v178 c0_i32_387
  let c1_i32_388 : BitVec 32 := 1#32
  let c1_i32_389 : BitVec 32 := 1#32
  let v781 : BitVec 32 := Scalar.subi c1_i32_388 c1_i32_389
  let v782 : BitVec 32 := Scalar.addi v780 v781
  let c1_i32_390 : BitVec 32 := 1#32
  let v783 : BitVec 32 := Scalar.divsi v782 c1_i32_390
  let v784 : BitVec 32 := Scalar.subi v783 c0_i32_393
  let c1_i32_394 : BitVec 32 := 1#32
  let v786 : BitVec 32 := Scalar.divsi v784 c1_i32_394
  let v787 : BitVec 32 := Scalar.muli v786 c1_i32_394
  let v788 : BitVec 32 := Scalar.addi c0_i32_393 v787
  let v785 : BitVec 32 := Scalar.addi c0_i32_393 v784
  let c1_i32_396 : BitVec 32 := 1#32
  ⟨v788, v785, c1_i32_396⟩
def k0_mult3 (i : grid0.Coords) (k0_t2 : Fin (k0_t2_loop i).trips) : BitVec 32 :=
  let c0_i32_392 : BitVec 32 := 0#32
  let c0_i32_393 : BitVec 32 := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c0_i32_387 : BitVec 32 := 0#32
  let v780 : BitVec 32 := Scalar.subi v178 c0_i32_387
  let c1_i32_388 : BitVec 32 := 1#32
  let c1_i32_389 : BitVec 32 := 1#32
  let v781 : BitVec 32 := Scalar.subi c1_i32_388 c1_i32_389
  let v782 : BitVec 32 := Scalar.addi v780 v781
  let c1_i32_390 : BitVec 32 := 1#32
  let v783 : BitVec 32 := Scalar.divsi v782 c1_i32_390
  let v784 : BitVec 32 := Scalar.subi v783 c0_i32_393
  let c1_i32_394 : BitVec 32 := 1#32
  let v786 : BitVec 32 := Scalar.divsi v784 c1_i32_394
  let v787 : BitVec 32 := Scalar.muli v786 c1_i32_394
  let v788 : BitVec 32 := Scalar.addi c0_i32_393 v787
  let c1_i32_396 : BitVec 32 := 1#32
  let arg17 : BitVec 32 := Scf.iv v788 c1_i32_396 k0_t2
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  v827
def k0_off9 (i : grid0.Coords) (k0_t2 : Fin (k0_t2_loop i).trips) : Fin 3 → Nat :=
  let c0_428 : Index := 0#32
  let c0_i32_392 : BitVec 32 := 0#32
  let c0_i32_393 : BitVec 32 := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c0_i32_387 : BitVec 32 := 0#32
  let v780 : BitVec 32 := Scalar.subi v178 c0_i32_387
  let c1_i32_388 : BitVec 32 := 1#32
  let c1_i32_389 : BitVec 32 := 1#32
  let v781 : BitVec 32 := Scalar.subi c1_i32_388 c1_i32_389
  let v782 : BitVec 32 := Scalar.addi v780 v781
  let c1_i32_390 : BitVec 32 := 1#32
  let v783 : BitVec 32 := Scalar.divsi v782 c1_i32_390
  let v784 : BitVec 32 := Scalar.subi v783 c0_i32_393
  let c1_i32_394 : BitVec 32 := 1#32
  let v786 : BitVec 32 := Scalar.divsi v784 c1_i32_394
  let v787 : BitVec 32 := Scalar.muli v786 c1_i32_394
  let v788 : BitVec 32 := Scalar.addi c0_i32_393 v787
  let c1_i32_396 : BitVec 32 := 1#32
  let arg17 : BitVec 32 := Scf.iv v788 c1_i32_396 k0_t2
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v829 : Index := Scalar.indexCast v828
  let c0_429 : Index := 0#32
  ![0, v829.toNat, 0]
def k0_off10 (i : grid0.Coords) (k0_t2 : Fin (k0_t2_loop i).trips) : Fin 3 → Nat :=
  let c0_430 : Index := 0#32
  let c0_i32_392 : BitVec 32 := 0#32
  let c0_i32_393 : BitVec 32 := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c0_i32_387 : BitVec 32 := 0#32
  let v780 : BitVec 32 := Scalar.subi v178 c0_i32_387
  let c1_i32_388 : BitVec 32 := 1#32
  let c1_i32_389 : BitVec 32 := 1#32
  let v781 : BitVec 32 := Scalar.subi c1_i32_388 c1_i32_389
  let v782 : BitVec 32 := Scalar.addi v780 v781
  let c1_i32_390 : BitVec 32 := 1#32
  let v783 : BitVec 32 := Scalar.divsi v782 c1_i32_390
  let v784 : BitVec 32 := Scalar.subi v783 c0_i32_393
  let c1_i32_394 : BitVec 32 := 1#32
  let v786 : BitVec 32 := Scalar.divsi v784 c1_i32_394
  let v787 : BitVec 32 := Scalar.muli v786 c1_i32_394
  let v788 : BitVec 32 := Scalar.addi c0_i32_393 v787
  let c1_i32_396 : BitVec 32 := 1#32
  let arg17 : BitVec 32 := Scf.iv v788 c1_i32_396 k0_t2
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v832 : Index := Scalar.indexCast v828
  let c0_431 : Index := 0#32
  ![0, v832.toNat, 0]
def k0_off11 (i : grid0.Coords) (k0_t2 : Fin (k0_t2_loop i).trips) : Fin 3 → Nat :=
  let c0_432 : Index := 0#32
  let c0_433 : Index := 0#32
  let c0_i32_392 : BitVec 32 := 0#32
  let c0_i32_393 : BitVec 32 := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c0_i32_387 : BitVec 32 := 0#32
  let v780 : BitVec 32 := Scalar.subi v178 c0_i32_387
  let c1_i32_388 : BitVec 32 := 1#32
  let c1_i32_389 : BitVec 32 := 1#32
  let v781 : BitVec 32 := Scalar.subi c1_i32_388 c1_i32_389
  let v782 : BitVec 32 := Scalar.addi v780 v781
  let c1_i32_390 : BitVec 32 := 1#32
  let v783 : BitVec 32 := Scalar.divsi v782 c1_i32_390
  let v784 : BitVec 32 := Scalar.subi v783 c0_i32_393
  let c1_i32_394 : BitVec 32 := 1#32
  let v786 : BitVec 32 := Scalar.divsi v784 c1_i32_394
  let v787 : BitVec 32 := Scalar.muli v786 c1_i32_394
  let v788 : BitVec 32 := Scalar.addi c0_i32_393 v787
  let c1_i32_396 : BitVec 32 := 1#32
  let arg17 : BitVec 32 := Scf.iv v788 c1_i32_396 k0_t2
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v835 : Index := Scalar.indexCast v828
  ![0, 0, v835.toNat]
def k0_off12 (i : grid0.Coords) (k0_t2 : Fin (k0_t2_loop i).trips) : Fin 3 → Nat :=
  let c0_436 : Index := 0#32
  let c0_437 : Index := 0#32
  let c0_i32_392 : BitVec 32 := 0#32
  let c0_i32_393 : BitVec 32 := 0#32
  let arg1 : BitVec 32 := BitVec.ofNat 32 (i 1).val
  let c32_i32 : BitVec 32 := 32#32
  let v0 : BitVec 32 := Scalar.muli arg1 c32_i32
  let c256_i32 : BitVec 32 := 256#32
  let v178 : BitVec 32 := Scalar.divsi v0 c256_i32
  let c0_i32_387 : BitVec 32 := 0#32
  let v780 : BitVec 32 := Scalar.subi v178 c0_i32_387
  let c1_i32_388 : BitVec 32 := 1#32
  let c1_i32_389 : BitVec 32 := 1#32
  let v781 : BitVec 32 := Scalar.subi c1_i32_388 c1_i32_389
  let v782 : BitVec 32 := Scalar.addi v780 v781
  let c1_i32_390 : BitVec 32 := 1#32
  let v783 : BitVec 32 := Scalar.divsi v782 c1_i32_390
  let v784 : BitVec 32 := Scalar.subi v783 c0_i32_393
  let c1_i32_394 : BitVec 32 := 1#32
  let v786 : BitVec 32 := Scalar.divsi v784 c1_i32_394
  let v787 : BitVec 32 := Scalar.muli v786 c1_i32_394
  let v788 : BitVec 32 := Scalar.addi c0_i32_393 v787
  let c1_i32_396 : BitVec 32 := 1#32
  let arg17 : BitVec 32 := Scf.iv v788 c1_i32_396 k0_t2
  let c1_i32_391 : BitVec 32 := 1#32
  let v825 : BitVec 32 := Scalar.muli arg17 c1_i32_391
  let v826 : BitVec 32 := Scalar.addi c0_i32_392 v825
  let c256_i32_427 : BitVec 32 := 256#32
  let v827 : BitVec 32 := Scalar.muli v826 c256_i32_427
  let v828 : BitVec 32 := v827
  let v841 : Index := Scalar.indexCast v828
  ![0, 0, v841.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x576 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x576x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1536x576 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e" => some (((Real.log 2)⁻¹ : ℝ) : EReal)
  | "scale_log2e" => some (((Real.sqrt 192)⁻¹ * (Real.log 2)⁻¹ : ℝ) : EReal)
  | "softmax_scale" => some (((Real.sqrt 192)⁻¹ : ℝ) : EReal)
  | _ => none
-- ==== ReferenceIdeal.lean ====
abbrev S2x196608x576 : Shape := ⟨3, ![2, 196608, 576]⟩
abbrev S2x196608x512 : Shape := ⟨3, ![2, 196608, 512]⟩
abbrev S2x1x196608 : Shape := ⟨3, ![2, 1, 196608]⟩
abbrev S2x4096x512 : Shape := ⟨3, ![2, 4096, 512]⟩
abbrev S2x4096x64 : Shape := ⟨3, ![2, 4096, 64]⟩
abbrev S2x576x4096 : Shape := ⟨3, ![2, 576, 4096]⟩
abbrev S2x64x4096 : Shape := ⟨3, ![2, 64, 4096]⟩
abbrev S2x196608x1 : Shape := ⟨3, ![2, 196608, 1]⟩
abbrev S2x4096x576 : Shape := ⟨3, ![2, 4096, 576]⟩
abbrev S2x196608 : Shape := ⟨2, ![2, 196608]⟩
abbrev S2x196608x4096 : Shape := ⟨3, ![2, 196608, 4096]⟩

abbrev nBuf : Space → Nat
  | .hbm => 12
  | .vmem => 12
  | .smem => 0
  | _ => 0

abbrev bufTy : (tb : Table) → Fin (tcTables nBuf tb) → BufTy
  | .hbm, ⟨0, _⟩ => ⟨S2x196608x576, .fp8e4m3⟩
  | .hbm, ⟨1, _⟩ => ⟨S2x196608x512, .fp8e5m2⟩
  | .hbm, ⟨2, _⟩ => ⟨S2x196608x512, .bf16⟩
  | .hbm, ⟨3, _⟩ => ⟨S2x1x196608, .f32⟩
  | .hbm, ⟨4, _⟩ => ⟨S2x1x196608, .f32⟩
  | .hbm, ⟨5, _⟩ => ⟨S2x1x196608, .f32⟩
  | .hbm, ⟨6, _⟩ => ⟨S2x4096x512, .bf16⟩
  | .hbm, ⟨7, _⟩ => ⟨S2x4096x64, .bf16⟩
  | .hbm, ⟨8, _⟩ => ⟨S2x576x4096, .bf16⟩
  | .hbm, ⟨9, _⟩ => ⟨S2x196608x576, .bf16⟩
  | .hbm, ⟨10, _⟩ => ⟨S2x4096x512, .f32⟩
  | .hbm, ⟨11, _⟩ => ⟨S2x64x4096, .f32⟩
  | .local _ .vmem, ⟨0, _⟩ => ⟨S2x196608x576, .fp8e4m3⟩
  | .local _ .vmem, ⟨1, _⟩ => ⟨S2x196608x512, .fp8e5m2⟩
  | .local _ .vmem, ⟨2, _⟩ => ⟨S2x196608x512, .bf16⟩
  | .local _ .vmem, ⟨3, _⟩ => ⟨S2x1x196608, .f32⟩
  | .local _ .vmem, ⟨4, _⟩ => ⟨S2x1x196608, .f32⟩
  | .local _ .vmem, ⟨5, _⟩ => ⟨S2x1x196608, .f32⟩
  | .local _ .vmem, ⟨6, _⟩ => ⟨S2x4096x512, .bf16⟩
  | .local _ .vmem, ⟨7, _⟩ => ⟨S2x4096x64, .bf16⟩
  | .local _ .vmem, ⟨8, _⟩ => ⟨S2x576x4096, .bf16⟩
  | .local _ .vmem, ⟨9, _⟩ => ⟨S2x196608x576, .bf16⟩
  | .local _ .vmem, ⟨10, _⟩ => ⟨S2x4096x512, .f32⟩
  | .local _ .vmem, ⟨11, _⟩ => ⟨S2x64x4096, .f32⟩
  | _, _ => ⟨S2x196608x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "softmax_scale" => some (((Real.sqrt 192)⁻¹ : ℝ) : EReal)
  | _ => none

abbrev grid0 : Pipeline.Grid := .none

abbrev stage0_0 : Fin 1 → Memref sig .tc .vmem S2x196608x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x196608x512 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x196608x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x196608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x196608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x196608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4096x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x576x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x196608x576 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4096x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Prep.lean ====
abbrev S2x4096x512 : Shape := ⟨3, ![2, 4096, 512]⟩
abbrev S2x4096x8 : Shape := ⟨3, ![2, 4096, 8]⟩
abbrev S2x4096x64 : Shape := ⟨3, ![2, 4096, 64]⟩
abbrev S2x576x4096 : Shape := ⟨3, ![2, 576, 4096]⟩
abbrev S1x512x512 : Shape := ⟨3, ![1, 512, 512]⟩
abbrev S1x512x8 : Shape := ⟨3, ![1, 512, 8]⟩
abbrev S1x512x64 : Shape := ⟨3, ![1, 512, 64]⟩
abbrev S1x576x512 : Shape := ⟨3, ![1, 576, 512]⟩
abbrev S8x512 : Shape := ⟨2, ![8, 512]⟩
abbrev S512x8 : Shape := ⟨2, ![512, 8]⟩
abbrev S512x512 : Shape := ⟨2, ![512, 512]⟩
abbrev S512x64 : Shape := ⟨2, ![512, 64]⟩
abbrev S64x512 : Shape := ⟨2, ![64, 512]⟩
abbrev S1x64x512 : Shape := ⟨3, ![1, 64, 512]⟩

abbrev nBuf : Space → Nat
  | .hbm => 5
  | .vmem => 10
  | .smem => 0
  | _ => 0

abbrev bufTy : (tb : Table) → Fin (tcTables nBuf tb) → BufTy
  | .hbm, ⟨0, _⟩ => ⟨S2x4096x512, .fp8e4m3⟩
  | .hbm, ⟨1, _⟩ => ⟨S2x4096x8, .f32⟩
  | .hbm, ⟨2, _⟩ => ⟨S2x4096x64, .bf16⟩
  | .hbm, ⟨3, _⟩ => ⟨S2x4096x512, .bf16⟩
  | .hbm, ⟨4, _⟩ => ⟨S2x576x4096, .bf16⟩
  | .local _ .vmem, ⟨0, _⟩ => ⟨S1x512x512, .fp8e4m3⟩
  | .local _ .vmem, ⟨1, _⟩ => ⟨S1x512x512, .fp8e4m3⟩
  | .local _ .vmem, ⟨2, _⟩ => ⟨S1x512x8, .f32⟩
  | .local _ .vmem, ⟨3, _⟩ => ⟨S1x512x8, .f32⟩
  | .local _ .vmem, ⟨4, _⟩ => ⟨S1x512x64, .bf16⟩
  | .local _ .vmem, ⟨5, _⟩ => ⟨S1x512x64, .bf16⟩
  | .local _ .vmem, ⟨6, _⟩ => ⟨S1x512x512, .bf16⟩
  | .local _ .vmem, ⟨7, _⟩ => ⟨S1x512x512, .bf16⟩
  | .local _ .vmem, ⟨8, _⟩ => ⟨S1x576x512, .bf16⟩
  | .local _ .vmem, ⟨9, _⟩ => ⟨S1x576x512, .bf16⟩
  | _, _ => ⟨S2x4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x576x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeysIdeal.lean ====
abbrev S2x4096x512 : Shape := ⟨3, ![2, 4096, 512]⟩
abbrev S2x4096x8 : Shape := ⟨3, ![2, 4096, 8]⟩
abbrev S2x4096x64 : Shape := ⟨3, ![2, 4096, 64]⟩
abbrev S2x576x4096 : Shape := ⟨3, ![2, 576, 4096]⟩
abbrev S2x4096x8x64 : Shape := ⟨4, ![2, 4096, 8, 64]⟩
abbrev S2x4096x8x1 : Shape := ⟨4, ![2, 4096, 8, 1]⟩
abbrev S2x4096x576 : Shape := ⟨3, ![2, 4096, 576]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x512, .fp8e4m3⟩
  | .hbm, ⟨1, _⟩ => ⟨S2x4096x8, .f32⟩
  | .hbm, ⟨2, _⟩ => ⟨S2x4096x64, .bf16⟩
  | .hbm, ⟨3, _⟩ => ⟨S2x4096x512, .bf16⟩
  | .hbm, ⟨4, _⟩ => ⟨S2x576x4096, .bf16⟩
  | .local _ .vmem, ⟨0, _⟩ => ⟨S2x4096x512, .fp8e4m3⟩
  | .local _ .vmem, ⟨1, _⟩ => ⟨S2x4096x8, .f32⟩
  | .local _ .vmem, ⟨2, _⟩ => ⟨S2x4096x64, .bf16⟩
  | .local _ .vmem, ⟨3, _⟩ => ⟨S2x4096x512, .bf16⟩
  | .local _ .vmem, ⟨4, _⟩ => ⟨S2x576x4096, .bf16⟩
  | _, _ => ⟨S2x4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x576x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.FrameKit.lean ====
/- The frame of the kernel as written (on bit patterns), first part: the step from a run to the frame claim, when the body's one
   branch is taken, and the staging and scratch memrefs of a grid point. -/
module

public import proofs.«01_k».proof.Proof.Gen.Kernel.Frame
public import proofs.«01_k».proof.Proof.Gen.Kernel.Skeleton
public import proofs.«01_k».proof.Proof.Gen.Kernel.Loops

@[expose] public section

-- the shapes are of production extents
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run whose final arrays are the ones the proof data describe, to the frame claim: the nine argument arrays end as
    they were launched. Every one of them is the array of an input window, which the kernel never writes. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 128) — by arithmetic of the point. -/
theorem hcond0_0 : ∀ t : Fin cfg0.N, cond0_0 (grid0.coords t) ↔ t.val % 128 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 1 % 128 := Pipeline.Grid.coords_val t 1 (by decide) rfl
    simp only [cond0_0, e0, e1]
    word_cmp
   : ∀ t : Fin grid0.N, cond0_0 (grid0.coords t) ↔ t.val % 128 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x1536x576 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x512 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x576x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536x576 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4096x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x4096 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S576x1536 .f32 := Memref.whole cc0_scratch0
abbrev scM0_1 : Memref sig .tc .vmem S1x1536 .f32 := Memref.whole cc0_scratch1
abbrev scM0_2 : Memref sig .tc .vmem S64x1536 .bf16 := Memref.whole cc0_scratch2

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.FrameA.lean ====
/- The frame of the kernel as written: its body at a batch's first grid point (the branch taken). -/
module

public import proofs.«01_k».proof.Proof.FrameKit

@[expose] public section

-- the shapes are of production extents
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1240000 in
/-- The body at a batch's first grid point (the branch taken): on whole memrefs it runs, leaves the nine inputs as they
    were and hands back the results' and the scratch buffers at some contents, of which nothing is said here. -/
theorem bodyRunA (c : Dev nD) (i : grid0.Coords) (arg2 : Memref sig .tc .vmem S1x1536x576 .fp8e4m3) (harg2 : arg2.IsWhole) (arg3 : Memref sig .tc .vmem S1x1536x512 .fp8e5m2) (harg3 : arg3.IsWhole) (arg4 : Memref sig .tc .vmem S1x1536x512 .bf16) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x1x1536 .f32) (harg7 : arg7.IsWhole) (arg8 : Memref sig .tc .vmem S1x4096x512 .bf16) (harg8 : arg8.IsWhole) (arg9 : Memref sig .tc .vmem S1x4096x64 .bf16) (harg9 : arg9.IsWhole) (arg10 : Memref sig .tc .vmem S1x576x4096 .bf16) (harg10 : arg10.IsWhole) (arg11 : Memref sig .tc .vmem S1x1536x576 .bf16) (harg11 : arg11.IsWhole) (arg12 : Memref sig .tc .vmem S1x4096x512 .f32) (harg12 : arg12.IsWhole) (arg13 : Memref sig .tc .vmem S1x64x4096 .f32) (harg13 : arg13.IsWhole) (arg14 : Memref sig .tc .vmem S576x1536 .f32) (harg14 : arg14.IsWhole) (arg15 : Memref sig .tc .vmem S1x1536 .f32) (harg15 : arg15.IsWhole) (arg16 : Memref sig .tc .vmem S64x1536 .bf16) (harg16 : arg16.IsWhole) (hc0 : cond0_0 i)
    (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_bwd_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mla_bwd_main_eq_skeleton]; unfold cc0_mla_bwd_main_skel
    simp only [k0_part44_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.FrameB.lean ====
/- The frame of the kernel as written: its body at any other grid point (the branch not taken). -/
module

public import proofs.«01_k».proof.Proof.FrameA

@[expose] public section

-- the shapes are of production extents
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1224000 in
/-- The body at any other grid point (the branch not taken): on whole memrefs it runs, leaves the nine inputs as they
    were and hands back the results' and the scratch buffers at some contents, of which nothing is said here. -/
theorem bodyRunB (c : Dev nD) (i : grid0.Coords) (arg2 : Memref sig .tc .vmem S1x1536x576 .fp8e4m3) (harg2 : arg2.IsWhole) (arg3 : Memref sig .tc .vmem S1x1536x512 .fp8e5m2) (harg3 : arg3.IsWhole) (arg4 : Memref sig .tc .vmem S1x1536x512 .bf16) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x1x1536 .f32) (harg7 : arg7.IsWhole) (arg8 : Memref sig .tc .vmem S1x4096x512 .bf16) (harg8 : arg8.IsWhole) (arg9 : Memref sig .tc .vmem S1x4096x64 .bf16) (harg9 : arg9.IsWhole) (arg10 : Memref sig .tc .vmem S1x576x4096 .bf16) (harg10 : arg10.IsWhole) (arg11 : Memref sig .tc .vmem S1x1536x576 .bf16) (harg11 : arg11.IsWhole) (arg12 : Memref sig .tc .vmem S1x4096x512 .f32) (harg12 : arg12.IsWhole) (arg13 : Memref sig .tc .vmem S1x64x4096 .f32) (harg13 : arg13.IsWhole) (arg14 : Memref sig .tc .vmem S576x1536 .f32) (harg14 : arg14.IsWhole) (arg15 : Memref sig .tc .vmem S1x1536 .f32) (harg15 : arg15.IsWhole) (arg16 : Memref sig .tc .vmem S64x1536 .bf16) (harg16 : arg16.IsWhole) (hc0 : ¬cond0_0 i)
    (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_bwd_main i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mla_bwd_main_eq_skeleton]; unfold cc0_mla_bwd_main_skel
    simp only [k0_part44_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.FrameRun.lean ====
/- The frame of the kernel as written, at any element type: every run of the program ends, with its nine argument arrays
   unchanged and every semaphore counter at zero. -/
module

public import proofs.«01_k».proof.Proof.FrameB
public import Idealize.ShloMosaic.Lib.Claim

@[expose] public section

-- the shapes are of production extents
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The three result windows: nothing is said here of what the kernel leaves in them. -/
def forgets0 : Fin 12 → Bool := fun w => w.val == 9 || w.val == 10 || w.val == 11

/-- The proof data: the arrays as the kernel finds them; after any point each input's buffer holds its block, and of the
    results' buffers nothing is said; the scratch buffers and the generator register hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the ones the kernel finds. -/
theorem A_eq (c : Dev nD) (w : Fin cfg0.W) : (dats m 0 c).A w = V m c (Pipeline.arrRef spec0 w) := by
  dsimp only [dats]

/-- What the body leaves in the input windows. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is given at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point: the point is a batch's first or not, and the one or the other run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  have hN : t.val < 256 := lt_of_lt_of_eq t.isLt (show cfg0.N = 256 from N_0)
  by_cases h0 : t.val % 128 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((bodyRunA c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((bodyRunB c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body's obligation to the pipeline, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the theorem's implicit arguments are found by unifying its conclusion
set_option backward.isDefEq.respectTransparency.types false in
/-- Every run ends, with the input arrays unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The nine argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- The frame claim: the nine argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Hand

end
-- ==== Proof.Tile.lean ====
/- What the kernel does with one block of 256 keys and one tile of 256 rows, as functions of the loaded blocks, and what
   each of these functions holds at an index when the arithmetic is that of the extended reals. -/
module

public import proofs.«01_k».proof.Proof.Gen.KernelIdeal.Skeleton
public import Idealize.ShloMosaic.Lib.ValueIdx
public import Idealize.ShloMosaic.Lib.ValueIdxCore
public import Idealize.ShloMosaic.Lib.ValueLayout
public import Idealize.ShloMosaic.Lib.MatmulPlain

@[expose] public section

noncomputable section

namespace Cert.KernelIdeal.Tile

open Idealize.ShloMosaic Idealize.SL.Sem Idealize.ShloMosaic.ValueIdx
open Cert.KernelIdeal Cert.KernelIdeal.Gen
open scoped BigOperators

section Functions
variable {F : FTy → Type} [FloatOps F] [Named F]

/-- A block of keys without its leading unit axis. -/
def keys (c : Vec F S1x256x512 .bf16) : FVec F S256x512 .bf16 := shapeCast S256x512 c shapeCasts_S1x256x512_S256x512
/-- A block of rotary keys without its leading unit axis. -/
def ropes (c : Vec F S1x256x64 .bf16) : FVec F S256x64 .bf16 := shapeCast S256x64 c shapeCasts_S1x256x64_S256x64
/-- A block of key gradients without its leading unit axis. -/
def keyGrads (c : Vec F S1x256x512 .f32) : FVec F S256x512 .f32 := shapeCast S256x512 c shapeCasts_S1x256x512_S256x512
/-- A block of transposed rotary key gradients without its leading unit axis. -/
def ropesT (c : Vec F S1x64x256 .f32) : FVec F S64x256 .f32 := shapeCast S64x256 c shapeCasts_S1x64x256_S64x256
/-- A block of transposed keys without its leading unit axis. -/
def keysT (c : Vec F S1x576x256 .bf16) : FVec F S576x256 .bf16 := shapeCast S576x256 c shapeCasts_S1x576x256_S576x256
/-- The first 512 lanes of a tile of queries, widened. -/
def qn (q : Vec F S1x256x512 .fp8e4m3) : FVec F S256x512 .bf16 :=
  extf .bf16 (shapeCast S256x512 q shapeCasts_S1x256x512_S256x512) bitsLt_fp8e4m3_bf16
/-- The last 64 lanes of a tile of queries, widened. -/
def qr (q : Vec F S1x256x64 .fp8e4m3) : FVec F S256x64 .bf16 :=
  extf .bf16 (shapeCast S256x64 q shapeCasts_S1x256x64_S256x64) bitsLt_fp8e4m3_bf16
/-- A tile of output gradients, widened. -/
def don (d : Vec F S1x256x512 .fp8e5m2) : FVec F S256x512 .bf16 :=
  extf .bf16 (shapeCast S256x512 d shapeCasts_S1x256x512_S256x512) bitsLt_fp8e5m2_bf16
/-- A row vector without one of its unit axes. -/
def rowv (v : Vec F S1x1x256 .f32) : FVec F S1x256 .f32 := shapeCast S1x256 v shapeCasts_S1x1x256_S1x256

/-- The raw scores of a block of keys against a tile of queries. -/
def score (c : FVec F S256x512 .bf16) (kr : FVec F S256x64 .bf16) (q : Vec F S1x256x512 .fp8e4m3) (r : Vec F S1x256x64 .fp8e4m3) :
    FVec F S256x256 .f32 :=
  addf (matmul dot_S256x512_S256x512_S256x256_1_1_0_0_n_n none c (qn q) (constant S256x256 .f32 0x00000000#32))
    (matmul dot_S256x64_S256x64_S256x256_1_1_0_0_n_n none kr (qr r) (constant S256x256 .f32 0x00000000#32))
/-- The products of a block of keys with a tile of output gradients. -/
def dprob (c : FVec F S256x512 .bf16) (d : Vec F S1x256x512 .fp8e5m2) : FVec F S256x256 .f32 :=
  matmul dot_S256x512_S256x512_S256x256_1_1_0_0_n_n none c (don d) (constant S256x256 .f32 0x00000000#32)
/-- The probabilities, from the raw scores, the scale of the queries and the logarithm of the row sums. -/
def prob (st : FVec F S256x256 .f32) (qs lse : Vec F S1x1x256 .f32) : FVec F S256x256 .f32 :=
  exp2 (subf
    (mulf st (broadcastTo S256x256 (mulf (rowv qs) (broadcast S1x256 (Named.named κ "scale_log2e" 0x3DD53B95#32))) broadcasts_S1x256_S256x256))
    (broadcastTo S256x256 (mulf (rowv lse) (broadcast S1x256 (Named.named κ "log2e" 0x3FB8AA3B#32))) broadcasts_S1x256_S256x256))
/-- The gradient of the scores. -/
def dscore (p dp : FVec F S256x256 .f32) (dos : Vec F S1x1x256 .f32) (delta : Vec F S1x256 .f32) : FVec F S256x256 .bf16 :=
  truncf .bf16 (mulf (mulf p (subf dp (broadcastTo S256x256 delta broadcasts_S1x256_S256x256)))
    (broadcastTo S256x256 (mulf (rowv dos) (broadcast S1x256 (Named.named κ "softmax_scale" 0x3D93CD3A#32))) broadcasts_S1x256_S256x256))
    bitsLt_bf16_f32
/-- A tile times a row vector. -/
def scaled (x : FVec F S256x256 .bf16) (v : Vec F S1x1x256 .f32) : FVec F S256x256 .bf16 :=
  mulf x (broadcastTo S256x256 (truncf .bf16 (rowv v) bitsLt_bf16_f32) broadcasts_S1x256_S256x256)
/-- What a tile of rows adds to the gradient of the keys. -/
def addKeys (acc : FVec F S256x512 .f32) (dsq pd : FVec F S256x256 .bf16) (q : Vec F S1x256x512 .fp8e4m3) (d : Vec F S1x256x512 .fp8e5m2) :
    FVec F S256x512 .f32 :=
  addf (addf acc (matmul dot_S256x256_S256x512_S256x512_1_0_0_1_n_n none dsq (qn q) (constant S256x512 .f32 0x00000000#32)))
    (matmul dot_S256x256_S256x512_S256x512_1_0_0_1_n_n none pd (don d) (constant S256x512 .f32 0x00000000#32))
/-- What a tile of rows adds to the gradient of the rotary keys. -/
def addRopes (acc : FVec F S64x256 .f32) (qrt : Vec F S64x256 .bf16) (dsq : FVec F S256x256 .bf16) : FVec F S64x256 .f32 :=
  addf acc (matmul dot_S64x256_S256x256_S64x256_1_1_0_0_n_n none qrt dsq (constant S64x256 .f32 0x00000000#32))
/-- What a block of keys adds to the transposed gradient of a tile of queries. -/
def dquery (kt : FVec F S576x256 .bf16) (ds : FVec F S256x256 .bf16) : FVec F S576x256 .f32 :=
  matmul dot_S576x256_S256x256_S576x256_1_0_0_1_n_n none kt ds (constant S576x256 .f32 0x00000000#32)

end Functions

/-! ## At an index, over the extended reals -/

theorem keyGrads_apply (c : Vec Ideal S1x256x512 .f32) (k : Fin 256) (d : Fin 512) : keyGrads c (ix2 k d) = c (ix3 0 k d) :=
  shapeCast_1ab_ab_apply c _ k d
theorem keys_apply (c : Vec Ideal S1x256x512 .bf16) (k : Fin 256) (d : Fin 512) : keys c (ix2 k d) = c (ix3 0 k d) :=
  shapeCast_1ab_ab_apply c _ k d
theorem ropes_apply (c : Vec Ideal S1x256x64 .bf16) (k : Fin 256) (d : Fin 64) : ropes c (ix2 k d) = c (ix3 0 k d) :=
  shapeCast_1ab_ab_apply c _ k d
theorem ropesT_apply (c : Vec Ideal S1x64x256 .f32) (e : Fin 64) (k : Fin 256) : ropesT c (ix2 e k) = c (ix3 0 e k) :=
  shapeCast_1ab_ab_apply c _ e k
theorem keysT_apply (c : Vec Ideal S1x576x256 .bf16) (d : Fin 576) (k : Fin 256) : keysT c (ix2 d k) = c (ix3 0 d k) :=
  shapeCast_1ab_ab_apply c _ d k
theorem qn_apply (q : Vec Ideal S1x256x512 .fp8e4m3) (r : Fin 256) (d : Fin 512) : qn q (ix2 r d) = q (ix3 0 r d) :=
  shapeCast_1ab_ab_apply q _ r d
theorem qr_apply (q : Vec Ideal S1x256x64 .fp8e4m3) (r : Fin 256) (d : Fin 64) : qr q (ix2 r d) = q (ix3 0 r d) :=
  shapeCast_1ab_ab_apply q _ r d
theorem don_apply (q : Vec Ideal S1x256x512 .fp8e5m2) (r : Fin 256) (d : Fin 512) : don q (ix2 r d) = q (ix3 0 r d) :=
  shapeCast_1ab_ab_apply q _ r d
theorem rowv_apply (v : Vec Ideal S1x1x256 .f32) (u : Fin 1) (r : Fin 256) : rowv v (ix2 u r) = v (ix3 0 u r) :=
  shapeCast_1ab_ab_apply v _ u r

theorem zero_apply {s : Shape} (i : s.Idx) : constant (F := Ideal) s .f32 0x00000000#32 i = 0 := by
  rw [constant_apply]; exact Ideal.ofBits_zero_f32

theorem score_apply (c : FVec Ideal S256x512 .bf16) (kr : FVec Ideal S256x64 .bf16) (q : Vec Ideal S1x256x512 .fp8e4m3)
    (r : Vec Ideal S1x256x64 .fp8e4m3) (k t : Fin 256) :
    score c kr q r (ix2 k t) = (∑ d : Fin 512, c (ix2 k d) * q (ix3 0 t d)) + ∑ e : Fin 64, kr (ix2 k e) * r (ix3 0 t e) := by
  unfold score
  rw [addf_apply]
  refine congrArg₂ (· + ·) ((Ideal.matmul_transposedRhs_apply none c (qn q) _ k t).trans ?_)
    ((Ideal.matmul_transposedRhs_apply none kr (qr r) _ k t).trans ?_) <;> rw [zero_apply, zero_add] <;>
    refine Finset.sum_congr rfl fun d _ => ?_
  · rw [qn_apply]
  · rw [qr_apply]

theorem dprob_apply (c : FVec Ideal S256x512 .bf16) (q : Vec Ideal S1x256x512 .fp8e5m2) (k t : Fin 256) :
    dprob c q (ix2 k t) = ∑ d : Fin 512, c (ix2 k d) * q (ix3 0 t d) := by
  refine (Ideal.matmul_transposedRhs_apply none c (don q) _ k t).trans ?_
  rw [zero_apply, zero_add]
  refine Finset.sum_congr rfl fun d _ => ?_
  rw [don_apply]

/-- The three named numbers. -/
def scaleLog2e : EReal := (((Real.sqrt 192)⁻¹ * (Real.log 2)⁻¹ : ℝ) : EReal)
def log2e : EReal := (((Real.log 2)⁻¹ : ℝ) : EReal)
def scale : EReal := (((Real.sqrt 192)⁻¹ : ℝ) : EReal)

theorem prob_apply (st : FVec Ideal S256x256 .f32) (qs lse : Vec Ideal S1x1x256 .f32) (k t : Fin 256) :
    prob st qs lse (ix2 k t)
      = Ideal.exp2 (st (ix2 k t) * (qs (ix3 0 0 t) * scaleLog2e) - lse (ix3 0 0 t) * log2e) := by
  show Ideal.exp2 (st (ix2 k t) * broadcastTo S256x256 (mulf (rowv qs) (broadcast S1x256 _)) broadcasts_S1x256_S256x256 (ix2 k t)
    - broadcastTo S256x256 (mulf (rowv lse) (broadcast S1x256 _)) broadcasts_S1x256_S256x256 (ix2 k t)) = _
  rw [broadcastTo_1b_ab_apply, broadcastTo_1b_ab_apply, mulf_apply, mulf_apply, rowv_apply, rowv_apply]
  rfl

theorem dscore_apply (p dp : FVec Ideal S256x256 .f32) (dos : Vec Ideal S1x1x256 .f32) (delta : Vec Ideal S1x256 .f32) (k t : Fin 256) :
    dscore p dp dos delta (ix2 k t)
      = (p (ix2 k t) * (dp (ix2 k t) - delta (ix2 0 t))) * (dos (ix3 0 0 t) * scale) := by
  show (p (ix2 k t) * (dp (ix2 k t) - broadcastTo S256x256 delta broadcasts_S1x256_S256x256 (ix2 k t)))
    * broadcastTo S256x256 (mulf (rowv dos) (broadcast S1x256 _)) broadcasts_S1x256_S256x256 (ix2 k t) = _
  rw [broadcastTo_1b_ab_apply, broadcastTo_1b_ab_apply, mulf_apply, rowv_apply]
  rfl

theorem scaled_apply (x : FVec Ideal S256x256 .bf16) (v : Vec Ideal S1x1x256 .f32) (k t : Fin 256) :
    scaled x v (ix2 k t) = x (ix2 k t) * v (ix3 0 0 t) := by
  show x (ix2 k t) * broadcastTo S256x256 (truncf (F := Ideal) .bf16 (rowv v) bitsLt_bf16_f32) broadcasts_S1x256_S256x256 (ix2 k t) = _
  rw [broadcastTo_1b_ab_apply, truncf_apply, rowv_apply]

theorem addKeys_apply (acc : FVec Ideal S256x512 .f32) (dsq pd : FVec Ideal S256x256 .bf16) (q : Vec Ideal S1x256x512 .fp8e4m3)
    (d : Vec Ideal S1x256x512 .fp8e5m2) (k : Fin 256) (e : Fin 512) :
    addKeys acc dsq pd q d (ix2 k e)
      = (acc (ix2 k e) + ∑ t : Fin 256, dsq (ix2 k t) * q (ix3 0 t e)) + ∑ t : Fin 256, pd (ix2 k t) * d (ix3 0 t e) := by
  unfold addKeys
  rw [addf_apply, addf_apply]
  refine congrArg₂ (· + ·) (congrArg (acc (ix2 k e) + ·) ((Ideal.matmul_plain_apply none dsq (qn q) _ k e).trans ?_))
    ((Ideal.matmul_plain_apply none pd (don d) _ k e).trans ?_) <;> rw [zero_apply, zero_add] <;>
    refine Finset.sum_congr rfl fun t _ => ?_
  · rw [qn_apply]
  · rw [don_apply]

theorem addRopes_apply (acc : FVec Ideal S64x256 .f32) (qrt : Vec Ideal S64x256 .bf16) (dsq : FVec Ideal S256x256 .bf16)
    (e : Fin 64) (k : Fin 256) :
    addRopes acc qrt dsq (ix2 e k) = acc (ix2 e k) + ∑ t : Fin 256, qrt (ix2 e t) * dsq (ix2 k t) := by
  unfold addRopes
  rw [addf_apply]
  refine congrArg (acc (ix2 e k) + ·) ((Ideal.matmul_transposedRhs_apply none qrt dsq _ e k).trans ?_)
  rw [zero_apply, zero_add]

theorem dquery_apply (kt : FVec Ideal S576x256 .bf16) (ds : FVec Ideal S256x256 .bf16) (d : Fin 576) (t : Fin 256) :
    dquery kt ds (ix2 d t) = ∑ k : Fin 256, kt (ix2 d k) * ds (ix2 k t) := by
  refine (Ideal.matmul_plain_apply none kt ds _ d t).trans ?_
  rw [zero_apply, zero_add]

end Cert.KernelIdeal.Tile

end
-- ==== Proof.Block.lean ====
/- One block of 256 keys against the six tiles of 256 rows of a grid point: the functions of Tile.lean put together. -/
module

public import proofs.«01_k».proof.Proof.Tile
public import Idealize.ShloMosaic.Lib.Pipeline.FrameBody

@[expose] public section

noncomputable section

namespace Cert.KernelIdeal.Tile

open Idealize.ShloMosaic Idealize.SL.Sem Idealize.ShloMosaic.ValueIdx
open Cert.KernelIdeal Cert.KernelIdeal.Gen
open scoped BigOperators

section Functions
variable {F : FTy → Type} [FloatOps F] [Named F]

/-! ## The loads of tile `n` -/

theorem inbQ (n : Fin 6) : ∀ a, (![0, 256 * n.val, 0] : Fin 3 → ℕ) a + S1x256x512.size a ≤ S1x1536x576.size a := by
  revert n; decide
theorem inbR (n : Fin 6) : ∀ a, (![0, 256 * n.val, 512] : Fin 3 → ℕ) a + S1x256x64.size a ≤ S1x1536x576.size a := by
  revert n; decide
theorem inbD (n : Fin 6) : ∀ a, (![0, 256 * n.val, 0] : Fin 3 → ℕ) a + S1x256x512.size a ≤ S1x1536x512.size a := by
  revert n; decide
theorem inbV (n : Fin 6) : ∀ a, (![0, 0, 256 * n.val] : Fin 3 → ℕ) a + S1x1x256.size a ≤ S1x1x1536.size a := by
  revert n; decide
theorem inbE (n : Fin 6) : ∀ a, (![0, 256 * n.val] : Fin 2 → ℕ) a + S1x256.size a ≤ S1x1536.size a := by
  revert n; decide
theorem inbT (n : Fin 6) : ∀ a, (![0, 256 * n.val] : Fin 2 → ℕ) a + S64x256.size a ≤ S64x1536.size a := by
  revert n; decide
theorem inbA (n : Fin 6) : ∀ a, (![0, 256 * n.val] : Fin 2 → ℕ) a + S576x256.size a ≤ S576x1536.size a := by
  revert n; decide

/-- Tile `n` of the queries: the first 512 lanes, and the last 64. -/
def qT (x : Vec F S1x1536x576 .fp8e4m3) (n : Fin 6) : Vec F S1x256x512 .fp8e4m3 :=
  View.ld x (Rect.unit ![0, 256 * n.val, 0] S1x256x512.size (inbQ n))
def rT (x : Vec F S1x1536x576 .fp8e4m3) (n : Fin 6) : Vec F S1x256x64 .fp8e4m3 :=
  View.ld x (Rect.unit ![0, 256 * n.val, 512] S1x256x64.size (inbR n))
/-- Tile `n` of the output gradients. -/
def dT (x : Vec F S1x1536x512 .fp8e5m2) (n : Fin 6) : Vec F S1x256x512 .fp8e5m2 :=
  View.ld x (Rect.unit ![0, 256 * n.val, 0] S1x256x512.size (inbD n))
/-- Tile `n` of a row vector. -/
def vT (x : Vec F S1x1x1536 .f32) (n : Fin 6) : Vec F S1x1x256 .f32 :=
  View.ld x (Rect.unit ![0, 0, 256 * n.val] S1x1x256.size (inbV n))
/-- Tile `n` of the row sums of the output gradients times the outputs. -/
def eT (x : Vec F S1x1536 .f32) (n : Fin 6) : Vec F S1x256 .f32 :=
  View.ld x (Rect.unit ![0, 256 * n.val] S1x256.size (inbE n))
/-- Tile `n` of the transposed rotary lanes of the queries. -/
def tT (x : Vec F S64x1536 .bf16) (n : Fin 6) : Vec F S64x256 .bf16 :=
  View.ld x (Rect.unit ![0, 256 * n.val] S64x256.size (inbT n))
/-- Tile `n` of the transposed query gradients. -/
def aT (x : Vec F S576x1536 .f32) (n : Fin 6) : Vec F S576x256 .f32 :=
  View.ld x (Rect.unit ![0, 256 * n.val] S576x256.size (inbA n))

/-! ## The block -/

variable (c : FVec F S256x512 .bf16) (kr : FVec F S256x64 .bf16) (kt : FVec F S576x256 .bf16)
  (mk : Fin 6 → FVec F S256x256 .f32 → FVec F S256x256 .f32)
  (x0 : Vec F S1x1536x576 .fp8e4m3) (x1 : Vec F S1x1536x512 .fp8e5m2) (x3 x4 x5 : Vec F S1x1x1536 .f32)
  (xd : Vec F S1x1536 .f32) (xq : Vec F S64x1536 .bf16)

/-- The probabilities of tile `n`, masked by `mk`. -/
def pT (n : Fin 6) : FVec F S256x256 .f32 := mk n (prob (score c kr (qT x0 n) (rT x0 n)) (vT x3 n) (vT x4 n))
/-- The score gradients of tile `n`. -/
def sT (n : Fin 6) : FVec F S256x256 .bf16 :=
  dscore (pT c kr mk x0 x3 x4 n) (dprob c (dT x1 n)) (vT x5 n) (eT xd n)
/-- The key gradients after tile `n`, from those before it. -/
def keyStep (n : Fin 6) (acc : FVec F S256x512 .f32) : FVec F S256x512 .f32 :=
  addKeys acc (scaled (sT c kr mk x0 x1 x3 x4 x5 xd n) (vT x3 n))
    (scaled (truncf .bf16 (pT c kr mk x0 x3 x4 n) bitsLt_bf16_f32) (vT x5 n)) (qT x0 n) (dT x1 n)
/-- The rotary key gradients after tile `n`, from those before it. -/
def ropeStep (n : Fin 6) (acc : FVec F S64x256 .f32) : FVec F S64x256 .f32 :=
  addRopes acc (tT xq n) (scaled (sT c kr mk x0 x1 x3 x4 x5 xd n) (vT x3 n))
/-- The key gradients after the six tiles. -/
def keyBlock (acc : FVec F S256x512 .f32) : FVec F S256x512 .f32 :=
  keyStep c kr mk x0 x1 x3 x4 x5 xd 5 (keyStep c kr mk x0 x1 x3 x4 x5 xd 4 (keyStep c kr mk x0 x1 x3 x4 x5 xd 3
    (keyStep c kr mk x0 x1 x3 x4 x5 xd 2 (keyStep c kr mk x0 x1 x3 x4 x5 xd 1 (keyStep c kr mk x0 x1 x3 x4 x5 xd 0 acc)))))
/-- The rotary key gradients after the six tiles. -/
def ropeBlock (acc : FVec F S64x256 .f32) : FVec F S64x256 .f32 :=
  ropeStep c kr mk x0 x1 x3 x4 x5 xd xq 5 (ropeStep c kr mk x0 x1 x3 x4 x5 xd xq 4 (ropeStep c kr mk x0 x1 x3 x4 x5 xd xq 3
    (ropeStep c kr mk x0 x1 x3 x4 x5 xd xq 2 (ropeStep c kr mk x0 x1 x3 x4 x5 xd xq 1 (ropeStep c kr mk x0 x1 x3 x4 x5 xd xq 0 acc)))))
/-- What the block adds to the transposed query gradients of tile `n`. -/
def queryT (n : Fin 6) : FVec F S576x256 .f32 := dquery kt (sT c kr mk x0 x1 x3 x4 x5 xd n)

end Functions

end Cert.KernelIdeal.Tile

end
-- ==== Proof.Prelude.lean ====
/- The two scratch arrays the kernel fills once per grid point: the row sums of the output gradients times the outputs, and the
   transposed rotary lanes of the queries. Also the loads of a tile, at an index. -/
module

public import proofs.«01_k».proof.Proof.Block
public import Idealize.ShloMosaic.Lib.WritesUnit

@[expose] public section

noncomputable section

namespace Cert.KernelIdeal.Tile

open Idealize.ShloMosaic Idealize.SL.Sem Idealize.ShloMosaic.ValueIdx
open Cert.KernelIdeal Cert.KernelIdeal.Gen
open scoped BigOperators

section Functions
variable {F : FTy → Type} [FloatOps F] [Named F]

/-- The six pieces of the row sums. -/
def deltaL (x1 : Vec F S1x1536x512 .fp8e5m2) (x2 : Vec F S1x1536x512 .bf16) : List (View.Piece (Elt F) S1x1536 .f32) :=
  [⟨Rect.unit ![0, 1280] S1x256.size (inbE 5), k0_pay162 (dT x1 5) (View.ld x2 (Rect.unit ![0, 1280, 0] S1x256x512.size (inbD 5)))⟩,
   ⟨Rect.unit ![0, 1024] S1x256.size (inbE 4), k0_pay162 (dT x1 4) (View.ld x2 (Rect.unit ![0, 1024, 0] S1x256x512.size (inbD 4)))⟩,
   ⟨Rect.unit ![0, 768] S1x256.size (inbE 3), k0_pay162 (dT x1 3) (View.ld x2 (Rect.unit ![0, 768, 0] S1x256x512.size (inbD 3)))⟩,
   ⟨Rect.unit ![0, 512] S1x256.size (inbE 2), k0_pay162 (dT x1 2) (View.ld x2 (Rect.unit ![0, 512, 0] S1x256x512.size (inbD 2)))⟩,
   ⟨Rect.unit ![0, 256] S1x256.size (inbE 1), k0_pay162 (dT x1 1) (View.ld x2 (Rect.unit ![0, 256, 0] S1x256x512.size (inbD 1)))⟩,
   ⟨Rect.unit ![0, 0] S1x256.size (inbE 0), k0_pay162 (dT x1 0) (View.ld x2 (Rect.unit ![0, 0, 0] S1x256x512.size (inbD 0)))⟩]

/-- The six pieces of the transposed rotary lanes. -/
def ropeL (x0 : Vec F S1x1536x576 .fp8e4m3) : List (View.Piece (Elt F) S64x1536 .bf16) :=
  [⟨Rect.unit ![0, 1280] S64x256.size (inbT 5), k0_pay163 (rT x0 5)⟩,
   ⟨Rect.unit ![0, 1024] S64x256.size (inbT 4), k0_pay163 (rT x0 4)⟩,
   ⟨Rect.unit ![0, 768] S64x256.size (inbT 3), k0_pay163 (rT x0 3)⟩,
   ⟨Rect.unit ![0, 512] S64x256.size (inbT 2), k0_pay163 (rT x0 2)⟩,
   ⟨Rect.unit ![0, 256] S64x256.size (inbT 1), k0_pay163 (rT x0 1)⟩,
   ⟨Rect.unit ![0, 0] S64x256.size (inbT 0), k0_pay163 (rT x0 0)⟩]

end Functions

/-! ## The coordinates -/

/-- Row `t` of tile `n`. -/
def row (n : Fin 6) (t : Fin 256) : Fin 1536 := ⟨256 * n.val + t.val, by omega⟩
/-- Key `k` of block `j`. -/
def key (j : Fin 16) (k : Fin 256) : Fin 4096 := ⟨256 * j.val + k.val, by omega⟩
/-- Lane `d` of the first 512 of 576, and lane `e` of the last 64. -/
def lo (d : Fin 512) : Fin 576 := ⟨d.val, by omega⟩
def hi (e : Fin 64) : Fin 576 := ⟨512 + e.val, by omega⟩

/-- A sum over the rows, tile by tile. -/
theorem sum_rows {M : Type*} [AddCommMonoid M] (f : Fin 1536 → M) : ∑ r, f r = ∑ n : Fin 6, ∑ t : Fin 256, f (row n t) := by
  rw [← Equiv.sum_comp (finProdFinEquiv (m := 6) (n := 256)) f, Fintype.sum_prod_type]
  refine Finset.sum_congr rfl fun n _ => Finset.sum_congr rfl fun t _ => congrArg f (Fin.ext ?_)
  show t.val + 256 * n.val = 256 * n.val + t.val
  omega

/-- A sum over the keys, block by block. -/
theorem sum_keys {M : Type*} [AddCommMonoid M] (f : Fin 4096 → M) : ∑ r, f r = ∑ n : Fin 16, ∑ t : Fin 256, f (key n t) := by
  rw [← Equiv.sum_comp (finProdFinEquiv (m := 16) (n := 256)) f, Fintype.sum_prod_type]
  refine Finset.sum_congr rfl fun n _ => Finset.sum_congr rfl fun t _ => congrArg f (Fin.ext ?_)
  show t.val + 256 * n.val = 256 * n.val + t.val
  omega

/-! ## The loads -/

theorem qT_apply (x : Vec Ideal S1x1536x576 .fp8e4m3) (n : Fin 6) (t : Fin 256) (d : Fin 512) :
    qT x n (ix3 0 t d) = x (ix3 0 (row n t) (lo d)) :=
  congrArg x (funext fun a => Fin.ext (by
    match a with
    | ⟨0, _⟩ => rfl
    | ⟨1, _⟩ => exact congrArg (256 * n.val + ·) (Nat.one_mul _)
    | ⟨2, _⟩ => show 0 + 1 * d.val = d.val; omega))
theorem rT_apply (x : Vec Ideal S1x1536x576 .fp8e4m3) (n : Fin 6) (t : Fin 256) (e : Fin 64) :
    rT x n (ix3 0 t e) = x (ix3 0 (row n t) (hi e)) :=
  congrArg x (funext fun a => Fin.ext (by
    match a with
    | ⟨0, _⟩ => rfl
    | ⟨1, _⟩ => exact congrArg (256 * n.val + ·) (Nat.one_mul _)
    | ⟨2, _⟩ => exact congrArg (512 + ·) (Nat.one_mul _)))
theorem dT_apply (x : Vec Ideal S1x1536x512 .fp8e5m2) (n : Fin 6) (t : Fin 256) (d : Fin 512) :
    dT x n (ix3 0 t d) = x (ix3 0 (row n t) d) :=
  congrArg x (funext fun a => Fin.ext (by
    match a with
    | ⟨0, _⟩ => rfl
    | ⟨1, _⟩ => exact congrArg (256 * n.val + ·) (Nat.one_mul _)
    | ⟨2, _⟩ => show 0 + 1 * d.val = d.val; omega))
theorem vT_apply (x : Vec Ideal S1x1x1536 .f32) (n : Fin 6) (t : Fin 256) : vT x n (ix3 0 0 t) = x (ix3 0 0 (row n t)) :=
  congrArg x (funext fun a => Fin.ext (by
    match a with
    | ⟨0, _⟩ => rfl
    | ⟨1, _⟩ => rfl
    | ⟨2, _⟩ => exact congrArg (256 * n.val + ·) (Nat.one_mul _)))
theorem eT_apply (x : Vec Ideal S1x1536 .f32) (n : Fin 6) (t : Fin 256) : eT x n (ix2 0 t) = x (ix2 0 (row n t)) :=
  congrArg x (funext fun a => Fin.ext (by
    match a with
    | ⟨0, _⟩ => rfl
    | ⟨1, _⟩ => exact congrArg (256 * n.val + ·) (Nat.one_mul _)))
theorem tT_apply (x : Vec Ideal S64x1536 .bf16) (n : Fin 6) (e : Fin 64) (t : Fin 256) : tT x n (ix2 e t) = x (ix2 e (row n t)) :=
  congrArg x (funext fun a => Fin.ext (by
    match a with
    | ⟨0, _⟩ => show 0 + 1 * e.val = e.val; omega
    | ⟨1, _⟩ => exact congrArg (256 * n.val + ·) (Nat.one_mul _)))
theorem aT_apply (x : Vec Ideal S576x1536 .f32) (n : Fin 6) (e : Fin 576) (t : Fin 256) : aT x n (ix2 e t) = x (ix2 e (row n t)) :=
  congrArg x (funext fun a => Fin.ext (by
    match a with
    | ⟨0, _⟩ => show 0 + 1 * e.val = e.val; omega
    | ⟨1, _⟩ => exact congrArg (256 * n.val + ·) (Nat.one_mul _)))

/-! ## Six pieces, one per tile -/

/-- The tile of a row, and its position in it. -/
theorem row_surj (r : Fin 1536) : ∃ (n : Fin 6) (t : Fin 256), row n t = r :=
  ⟨⟨r.val / 256, by omega⟩, ⟨r.val % 256, by omega⟩, Fin.ext (Nat.div_add_mod r.val 256)⟩

/-- Six pieces along the last axis of a rank-2 buffer, read at a tile. -/
theorem read_six {sig : RefSig} {κ : Kind} {sp : Space} {A : ℕ} {e : EltTy} {Val : EltTy → Type}
    (v : View sig κ sp (⟨2, ![A, 1536]⟩ : Shape) e) (f : v.ty.Contents Val)
    (w0 w1 w2 w3 w4 w5 : (⟨2, ![A, 256]⟩ : Shape).Idx → Val e) (h5 h4 h3 h2 h1 h0)
    (a : Fin A) (n : Fin 6) (t : Fin 256) :
    v.read Val (v.writes Val f
      [⟨Rect.unit ![0, 1280] (⟨2, ![A, 256]⟩ : Shape).size h5, w5⟩, ⟨Rect.unit ![0, 1024] (⟨2, ![A, 256]⟩ : Shape).size h4, w4⟩,
       ⟨Rect.unit ![0, 768] (⟨2, ![A, 256]⟩ : Shape).size h3, w3⟩, ⟨Rect.unit ![0, 512] (⟨2, ![A, 256]⟩ : Shape).size h2, w2⟩,
       ⟨Rect.unit ![0, 256] (⟨2, ![A, 256]⟩ : Shape).size h1, w1⟩, ⟨Rect.unit ![0, 0] (⟨2, ![A, 256]⟩ : Shape).size h0, w0⟩])
      (ix2 a (row n t)) = (![w0, w1, w2, w3, w4, w5] n) (ix2 a t) := by
  have hit : ∀ (o : ℕ) (h : ∀ a, (![0, o] : Fin 2 → ℕ) a + (⟨2, ![A, 256]⟩ : Shape).size a ≤ (⟨2, ![A, 1536]⟩ : Shape).size a) (w L),
      o = 256 * n.val → v.read Val (v.writes Val f (⟨Rect.unit ![0, o] (⟨2, ![A, 256]⟩ : Shape).size h, w⟩ :: L)) (ix2 a (row n t)) = w (ix2 a t) :=
    fun o h w L ho => View.read_writes_cons_unit_of_mem v f h w L _ (ix2 a t) rfl (fun ax => by
      match ax with
      | ⟨0, _⟩ => exact (Nat.zero_add _).symm
      | ⟨1, _⟩ => show 256 * n.val + t.val = o + t.val; rw [ho])
  have miss : ∀ (o : ℕ) (h : ∀ a, (![0, o] : Fin 2 → ℕ) a + (⟨2, ![A, 256]⟩ : Shape).size a ≤ (⟨2, ![A, 1536]⟩ : Shape).size a) (w L),
      256 * n.val + 256 ≤ o → v.read Val (v.writes Val f (⟨Rect.unit ![0, o] (⟨2, ![A, 256]⟩ : Shape).size h, w⟩ :: L)) (ix2 a (row n t))
        = v.read Val (v.writes Val f L) (ix2 a (row n t)) :=
    fun o h w L ho => View.read_writes_cons_unit_of_not_mem v f h w L _ rfl (1 : Fin 2) (Or.inl (by
      show 256 * n.val + t.val < o
      have := t.isLt
      omega))
  match n, hit, miss with
  | ⟨0, _⟩, hit, miss =>
    exact (miss _ h5 _ _ (of_decide_eq_true rfl)).trans ((miss _ h4 _ _ (of_decide_eq_true rfl)).trans ((miss _ h3 _ _ (of_decide_eq_true rfl)).trans
      ((miss _ h2 _ _ (of_decide_eq_true rfl)).trans ((miss _ h1 _ _ (of_decide_eq_true rfl)).trans (hit _ h0 _ _ rfl)))))
  | ⟨1, _⟩, hit, miss =>
    exact (miss _ h5 _ _ (of_decide_eq_true rfl)).trans ((miss _ h4 _ _ (of_decide_eq_true rfl)).trans ((miss _ h3 _ _ (of_decide_eq_true rfl)).trans
      ((miss _ h2 _ _ (of_decide_eq_true rfl)).trans (hit _ h1 _ _ rfl))))
  | ⟨2, _⟩, hit, miss =>
    exact (miss _ h5 _ _ (of_decide_eq_true rfl)).trans ((miss _ h4 _ _ (of_decide_eq_true rfl)).trans ((miss _ h3 _ _ (of_decide_eq_true rfl)).trans (hit _ h2 _ _ rfl)))
  | ⟨3, _⟩, hit, miss =>
    exact (miss _ h5 _ _ (of_decide_eq_true rfl)).trans ((miss _ h4 _ _ (of_decide_eq_true rfl)).trans (hit _ h3 _ _ rfl))
  | ⟨4, _⟩, hit, miss => exact (miss _ h5 _ _ (of_decide_eq_true rfl)).trans (hit _ h4 _ _ rfl)
  | ⟨5, _⟩, hit, _ => exact hit _ h5 _ _ rfl

/-- The row sums: the output gradients times the outputs, summed over the 512 lanes. -/
def delta (x1 : Vec Ideal S1x1536x512 .fp8e5m2) (x2 : Vec Ideal S1x1536x512 .bf16) (r : Fin 1536) : EReal :=
  ∑ d : Fin 512, x1 (ix3 0 r d) * x2 (ix3 0 r d)

theorem sum_512 (f : Fin 512 → EReal) :
    ∑ l : Fin 128, ((((0 + f ⟨0 + l.val, by omega⟩) + f ⟨128 + l.val, by omega⟩) + f ⟨256 + l.val, by omega⟩) + f ⟨384 + l.val, by omega⟩)
      = ∑ d, f d := by
  have h : ∑ d, f d = ∑ n : Fin 4, ∑ l : Fin 128, f ⟨128 * n.val + l.val, by omega⟩ := by
    rw [← Equiv.sum_comp (finProdFinEquiv (m := 4) (n := 128)) f, Fintype.sum_prod_type]
    refine Finset.sum_congr rfl fun n _ => Finset.sum_congr rfl fun t _ => congrArg f (Fin.ext ?_)
    show t.val + 128 * n.val = 128 * n.val + t.val
    omega
  rw [h, Finset.sum_comm]
  refine Finset.sum_congr rfl fun l _ => ?_
  rw [Fin.sum_univ_four, zero_add]
  rfl

theorem pay162_apply (d : Vec Ideal S1x256x512 .fp8e5m2) (o : Vec Ideal S1x256x512 .bf16) (t : Fin 256) :
    k0_pay162 d o (ix2 0 t) = ∑ l : Fin 512, d (ix3 0 t l) * o (ix3 0 t l) := by
  unfold k0_pay162
  rw [shapeCast_self]
  refine (shapeCast_a_1a_apply _ _ 0 t).trans ?_
  refine (Ideal.multiReduction_add_single _ _ _ _ _ _).trans ?_
  refine Eq.trans ?_ (sum_512 fun l => d (ix3 0 t l) * o (ix3 0 t l))
  refine Finset.sum_congr rfl fun (l : Fin 128) _ => ?_
  have hl : reduces_S128x256_S256.lift (ix1 t) l = ix2 l t := by
    funext a; match a with
    | ⟨0, _⟩ => rfl
    | ⟨1, _⟩ => rfl
  rw [hl, transpose_ix2_apply, addf_apply, addf_apply, addf_apply, addf_apply, broadcast_apply]
  have hs : ∀ (o' : ℕ) (h : (⟨2, ![256, 512]⟩ : Shape).Slices ![0, o'] ⟨2, ![256, 128]⟩) (k : Fin 512), k.val = o' + l.val →
      extractStridedSlice S256x128 ![0, o'] (mulf (extf (F := Ideal) .f32 (shapeCast S256x512 d shapeCasts_S1x256x512_S256x512) bitsLt_fp8e5m2_f32)
        (extf .f32 (shapeCast S256x512 o shapeCasts_S1x256x512_S256x512) bitsLt_bf16_f32)) h (ix2 t l) = d (ix3 0 t k) * o (ix3 0 t k) := by
    intro o' h k hk
    refine (slice2_axis1_apply o' _ h t l k hk).trans ?_
    rw [mulf_apply, extf_apply, extf_apply]
    exact congrArg₂ (· * ·) (shapeCast_1ab_ab_apply d _ t k) (shapeCast_1ab_ab_apply o _ t k)
  refine congrArg₂ (· + ·) (congrArg₂ (· + ·) (congrArg₂ (· + ·) (congrArg₂ (· + ·) Ideal.ofBits_zero_f32 (hs _ _ _ rfl)) (hs _ _ _ rfl)) (hs _ _ _ rfl)) (hs _ _ _ rfl)

theorem pay163_apply (r : Vec Ideal S1x256x64 .fp8e4m3) (e : Fin 64) (t : Fin 256) :
    k0_pay163 r (ix2 e t) = r (ix3 0 t e) := by
  unfold k0_pay163
  rw [shapeCast_self]
  refine (transpose_ix2_apply _ _ e t).trans ?_
  rw [extf_apply]
  exact shapeCast_1ab_ab_apply r _ t e

variable {sig : RefSig} {κ : Kind} {sp : Space}

theorem deltaL_read (v : View sig κ sp S1x1536 .f32) (f : v.ty.Contents (Elt Ideal)) (x1 : Vec Ideal S1x1536x512 .fp8e5m2)
    (x2 : Vec Ideal S1x1536x512 .bf16) (r : Fin 1536) :
    v.read (Elt Ideal) (v.writes (Elt Ideal) f (deltaL x1 x2)) (ix2 0 r) = delta x1 x2 r := by
  obtain ⟨n, t, rfl⟩ := row_surj r
  refine (read_six v f _ _ _ _ _ _ _ _ _ _ _ _ 0 n t).trans ?_
  have h : ∀ (m : Fin 6) (o : Fin 3 → ℕ) (ho : o = ![0, 256 * m.val, 0]) (hi : ∀ a, o a + S1x256x512.size a ≤ S1x1536x512.size a),
      k0_pay162 (dT x1 m) (View.ld x2 (Rect.unit o S1x256x512.size hi)) (ix2 0 t) = delta x1 x2 (row m t) := by
    intro m o ho hi
    subst ho
    rw [pay162_apply]
    refine Finset.sum_congr rfl fun d _ => congrArg₂ (· * ·) (dT_apply x1 m t d) (congrArg x2 (funext fun a => Fin.ext (by
      match a with
      | ⟨0, _⟩ => rfl
      | ⟨1, _⟩ => exact congrArg (256 * m.val + ·) (Nat.one_mul _)
      | ⟨2, _⟩ => show 0 + 1 * d.val = d.val; omega)))
  fin_cases n
  · exact h 0 _ rfl _
  · exact h 1 _ rfl _
  · exact h 2 _ rfl _
  · exact h 3 _ rfl _
  · exact h 4 _ rfl _
  · exact h 5 _ rfl _

theorem ropeL_read (v : View sig κ sp S64x1536 .bf16) (f : v.ty.Contents (Elt Ideal)) (x0 : Vec Ideal S1x1536x576 .fp8e4m3)
    (e : Fin 64) (r : Fin 1536) :
    v.read (Elt Ideal) (v.writes (Elt Ideal) f (ropeL x0)) (ix2 e r) = x0 (ix3 0 r (hi e)) := by
  obtain ⟨n, t, rfl⟩ := row_surj r
  refine (read_six v f _ _ _ _ _ _ _ _ _ _ _ _ e n t).trans ?_
  have h : ∀ m : Fin 6, k0_pay163 (rT x0 m) (ix2 e t) = x0 (ix3 0 (row m t) (hi e)) := fun m => by
    rw [pay163_apply, rT_apply]
  fin_cases n
  · exact h 0
  · exact h 1
  · exact h 2
  · exact h 3
  · exact h 4
  · exact h 5

end Cert.KernelIdeal.Tile

end
-- ==== Proof.Trip.lean ====
/- One trip of the loop over the blocks of keys before the diagonal one: what it stores, as the functions of Block.lean of
   the blocks it loads. -/
module

public import proofs.«01_k».proof.Proof.Block
public import proofs.«01_k».proof.Proof.Gen.KernelIdeal.Loops
import all proofs.«01_k».proof.Proof.Gen.KernelIdeal.Loops

@[expose] public section

set_option maxRecDepth 16384

noncomputable section

namespace Cert.KernelIdeal.Tile

open Idealize.ShloMosaic Idealize.SL.Sem Idealize.ShloMosaic.ValueIdx
open Cert.KernelIdeal Cert.KernelIdeal.Gen

variable {F : FTy → Type} [FloatOps F] [Named F]

/-- No mask: every key of the block is visible to every row of the grid point. -/
def noMask (_ : Fin 6) (p : FVec F S256x256 .f32) : FVec F S256x256 .f32 := p

/-- The key gradients' block after one trip. -/
theorem trip_pieces (𝒱 : Variants) (c : Dev nD) (bd : Option 𝒱.V) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (v178 v180 : BitVec 32) (v767 : FVec F S64x256 .f32) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X15 : BufTy.Contents (Elt F) arg15.view.ty) (X16 : BufTy.Contents (Elt F) arg16.view.ty)
  (k : Fin (k0_t1_loop i).trips) (f12 : BufTy.Contents (Elt F) arg12.view.ty) (f13 : BufTy.Contents (Elt F) arg13.view.ty) (f14 : BufTy.Contents (Elt F) arg14.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v178 v180 v767 X2 X3 X5 X6 X7 X8 X9 X10 X15 X16 k f12 f13 f14
      = ([⟨Rect.unit (k0_off5 i k) S1x256x512.size (k0_off5_inb i k), shapeCast S1x256x512
            (keyBlock (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) noMask (arg2.view.read (Elt F) X2) (arg3.view.read (Elt F) X3) (arg5.view.read (Elt F) X5) (arg6.view.read (Elt F) X6) (arg7.view.read (Elt F) X7) (arg15.view.read (Elt F) X15) (keyGrads (View.ld (arg12.view.read (Elt F) f12) (Rect.unit (k0_off5 i k) S1x256x512.size (k0_off5_inb i k))))) shapeCasts_S256x512_S1x256x512⟩],
         [⟨Rect.unit (k0_off8 i k) S1x64x256.size (k0_off8_inb i k), shapeCast S1x64x256
            (ropeBlock (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) noMask (arg2.view.read (Elt F) X2) (arg3.view.read (Elt F) X3) (arg5.view.read (Elt F) X5) (arg6.view.read (Elt F) X6) (arg7.view.read (Elt F) X7) (arg15.view.read (Elt F) X15) (arg16.view.read (Elt F) X16) (ropesT (View.ld (arg13.view.read (Elt F) f13) (Rect.unit (k0_off8 i k) S1x64x256.size (k0_off8_inb i k))))) shapeCasts_S64x256_S1x64x256⟩],
         [
          ⟨Rect.unit ![0, 1280] S576x256.size inb_S576x1536_S576x256_0_1280, shapeCast S576x256
            (addf (aT (arg14.view.read (Elt F) f14) 5) (queryT (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) (keysT (View.ld (arg10.view.read (Elt F) X10) (Rect.unit (k0_off7 i k) S1x576x256.size (k0_off7_inb i k)))) noMask (arg2.view.read (Elt F) X2) (arg3.view.read (Elt F) X3) (arg5.view.read (Elt F) X5) (arg6.view.read (Elt F) X6) (arg7.view.read (Elt F) X7) (arg15.view.read (Elt F) X15) 5)) shapeCasts_S576x256_S576x256⟩,
          ⟨Rect.unit ![0, 1024] S576x256.size inb_S576x1536_S576x256_0_1024, shapeCast S576x256
            (addf (aT (arg14.view.read (Elt F) f14) 4) (queryT (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) (keysT (View.ld (arg10.view.read (Elt F) X10) (Rect.unit (k0_off7 i k) S1x576x256.size (k0_off7_inb i k)))) noMask (arg2.view.read (Elt F) X2) (arg3.view.read (Elt F) X3) (arg5.view.read (Elt F) X5) (arg6.view.read (Elt F) X6) (arg7.view.read (Elt F) X7) (arg15.view.read (Elt F) X15) 4)) shapeCasts_S576x256_S576x256⟩,
          ⟨Rect.unit ![0, 768] S576x256.size inb_S576x1536_S576x256_0_768, shapeCast S576x256
            (addf (aT (arg14.view.read (Elt F) f14) 3) (queryT (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) (keysT (View.ld (arg10.view.read (Elt F) X10) (Rect.unit (k0_off7 i k) S1x576x256.size (k0_off7_inb i k)))) noMask (arg2.view.read (Elt F) X2) (arg3.view.read (Elt F) X3) (arg5.view.read (Elt F) X5) (arg6.view.read (Elt F) X6) (arg7.view.read (Elt F) X7) (arg15.view.read (Elt F) X15) 3)) shapeCasts_S576x256_S576x256⟩,
          ⟨Rect.unit ![0, 512] S576x256.size inb_S576x1536_S576x256_0_512, shapeCast S576x256
            (addf (aT (arg14.view.read (Elt F) f14) 2) (queryT (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) (keysT (View.ld (arg10.view.read (Elt F) X10) (Rect.unit (k0_off7 i k) S1x576x256.size (k0_off7_inb i k)))) noMask (arg2.view.read (Elt F) X2) (arg3.view.read (Elt F) X3) (arg5.view.read (Elt F) X5) (arg6.view.read (Elt F) X6) (arg7.view.read (Elt F) X7) (arg15.view.read (Elt F) X15) 2)) shapeCasts_S576x256_S576x256⟩,
          ⟨Rect.unit ![0, 256] S576x256.size inb_S576x1536_S576x256_0_256, shapeCast S576x256
            (addf (aT (arg14.view.read (Elt F) f14) 1) (queryT (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) (keysT (View.ld (arg10.view.read (Elt F) X10) (Rect.unit (k0_off7 i k) S1x576x256.size (k0_off7_inb i k)))) noMask (arg2.view.read (Elt F) X2) (arg3.view.read (Elt F) X3) (arg5.view.read (Elt F) X5) (arg6.view.read (Elt F) X6) (arg7.view.read (Elt F) X7) (arg15.view.read (Elt F) X15) 1)) shapeCasts_S576x256_S576x256⟩,
          ⟨Rect.unit ![0, 0] S576x256.size inb_S576x1536_S576x256_0_0, shapeCast S576x256
            (addf (aT (arg14.view.read (Elt F) f14) 0) (queryT (keys (View.ld (arg8.view.read (Elt F) X8) (Rect.unit (k0_off5 i k) S1x256x512.size (k0_off5_inb i k)))) (ropes (View.ld (arg9.view.read (Elt F) X9) (Rect.unit (k0_off6 i k) S1x256x64.size (k0_off6_inb i k)))) (keysT (View.ld (arg10.view.read (Elt F) X10) (Rect.unit (k0_off7 i k) S1x576x256.size (k0_off7_inb i k)))) noMask (arg2.view.read (Elt F) X2) (arg3.view.read (Elt F) X3) (arg5.view.read (Elt F) X5) (arg6.view.read (Elt F) X6) (arg7.view.read (Elt F) X7) (arg15.view.read (Elt F) X15) 0)) shapeCasts_S576x256_S576x256⟩])  := by
  unfold tripL_k0_t1 trip_k0_t1
  rfl

end Cert.KernelIdeal.Tile

end
-- ==== Proof.Diag.lean ====
/- The diagonal block of keys: the mask, and the block's contribution as the functions of Block.lean. -/
module

public import proofs.«01_k».proof.Proof.Prelude
public import proofs.«01_k».proof.Proof.Trip

@[expose] public section

noncomputable section

namespace Cert.KernelIdeal.Tile

open Idealize.ShloMosaic Idealize.SL.Sem Idealize.ShloMosaic.ValueIdx
open Cert.KernelIdeal Cert.KernelIdeal.Gen

/-- The kernel's words for the first token of a grid point, and for the first key of its diagonal block. -/
def tokW (i : grid0.Coords) : BitVec 32 := Scalar.muli (BitVec.ofNat 32 (i 1).val) 32#32
def blkW (i : grid0.Coords) : BitVec 32 := Scalar.divsi (tokW i) 256#32
def keyW (i : grid0.Coords) : BitVec 32 := Scalar.muli (blkW i) 256#32
/-- The word of the remainder loop's start. -/
def remW (i : grid0.Coords) : BitVec 32 :=
  Scalar.addi 0#32 (Scalar.muli (Scalar.divsi (Scalar.subi (Scalar.divsi (Scalar.addi (Scalar.subi (blkW i) 0#32) 0#32) 1#32) 0#32) 1#32) 1#32)

/-- The mask of a tile of rows whose first row is the word `o`: the key is at most the token of the row. -/
def visW (v0 v180 o : BitVec 32) : IVec S256x256 1 :=
  have v704 : IVec S256x256 32 := iota .tc S256x256 32 [0] iota_S256x256_d0_w32
  have v705 : IVec S256x256 32 := broadcast S256x256 v180
  have v706 : IVec S256x256 32 := addi v705 v704
  have v707 : IVec S256x256 32 := iota .tc S256x256 32 [1] iota_S256x256_d1_w32
  have v708 : IVec S256x256 32 := broadcast S256x256 o
  have v709 : IVec S256x256 32 := addi v708 v707
  have v710 : IVec S256x256 32 := broadcast S256x256 48#32
  have v711 : IVec S256x256 32 := divsi v709 v710
  have v712 : IVec S256x256 32 := broadcast S256x256 0#32
  have v713 : IVec S256x256 1 := cmpi .sgt v709 v712
  have v714 : IVec S256x256 32 := extui 32 v713 natLt_1_32
  have v715 : IVec S256x256 32 := broadcast S256x256 0#32
  have v716 : IVec S256x256 1 := cmpi .slt v709 v715
  have v717 : IVec S256x256 32 := extui 32 v716 natLt_1_32
  have v718 : IVec S256x256 32 := subi v714 v717
  let v719 : BitVec 1 := Scalar.cmpi .sgt 48#32 0#32
  let v720 : BitVec 32 := Scalar.extui v719
  let v721 : BitVec 1 := Scalar.cmpi .slt 48#32 0#32
  let v722 : BitVec 32 := Scalar.extui v721
  let v723 : BitVec 32 := Scalar.subi v720 v722
  have v724 : IVec S256x256 32 := broadcast S256x256 v723
  have v725 : IVec S256x256 1 := cmpi .ne v718 v724
  have v726 : IVec S256x256 32 := broadcast S256x256 48#32
  have v727 : IVec S256x256 32 := remsi v709 v726
  have v728 : IVec S256x256 32 := broadcast S256x256 0#32
  have v729 : IVec S256x256 1 := cmpi .ne v727 v728
  have v730 : IVec S256x256 1 := andi v725 v729
  have v731 : IVec S256x256 32 := broadcast S256x256 1#32
  have v732 : IVec S256x256 32 := subi v711 v731
  have v733 : IVec S256x256 32 := select v730 v732 v711
  have v734 : IVec S256x256 32 := broadcast S256x256 v0
  have v735 : IVec S256x256 32 := addi v734 v733
  have v736 : IVec S256x256 1 := cmpi .sle v706 v735
  v736

variable {F : FTy → Type} [FloatOps F] [Named F]

/-- The mask of the diagonal block: the probability where the key is visible, zero elsewhere. -/
def diagMask (i : grid0.Coords) (n : Fin 6) (p : FVec F S256x256 .f32) : FVec F S256x256 .f32 :=
  select (visW (tokW i) (keyW i) (![0#32, 256#32, 512#32, 768#32, 1024#32, 1280#32] n)) p (broadcast S256x256 (Scalar.ofBits .f32 0x00000000#32))

/-- The diagonal block of the keys, of the rotary keys and of the transposed keys. -/
def diagC (i : grid0.Coords) (x6 : Vec F S1x4096x512 .bf16) : FVec F S256x512 .bf16 :=
  keys (View.ld x6 (Rect.unit (k0_off1 i) S1x256x512.size (k0_off1_inb i)))
def diagR (i : grid0.Coords) (x7 : Vec F S1x4096x64 .bf16) : FVec F S256x64 .bf16 :=
  ropes (View.ld x7 (Rect.unit (k0_off2 i) S1x256x64.size (k0_off2_inb i)))
def diagT (i : grid0.Coords) (x8 : Vec F S1x576x4096 .bf16) : FVec F S576x256 .bf16 :=
  keysT (View.ld x8 (Rect.unit (k0_off3 i) S1x576x256.size (k0_off3_inb i)))

variable (i : grid0.Coords) (x0 : Vec F S1x1536x576 .fp8e4m3) (x1 : Vec F S1x1536x512 .fp8e5m2) (x3 x4 x5 : Vec F S1x1x1536 .f32)
  (x6 : Vec F S1x4096x512 .bf16) (x7 : Vec F S1x4096x64 .bf16) (x8 : Vec F S1x576x4096 .bf16)
  (xd : Vec F S1x1536 .f32) (xq : Vec F S64x1536 .bf16)

/-- What the diagonal block stores into the gradient of the keys, over what it found there. -/
def diag12 (g : Vec F S1x4096x512 .f32) : View.Piece (Elt F) S1x4096x512 .f32 :=
  ⟨Rect.unit (k0_off1 i) S1x256x512.size (k0_off1_inb i), shapeCast S1x256x512
    (keyBlock (diagC i x6) (diagR i x7) (diagMask i) x0 x1 x3 x4 x5 xd
      (keyGrads (View.ld g (Rect.unit (k0_off1 i) S1x256x512.size (k0_off1_inb i))))) shapeCasts_S256x512_S1x256x512⟩
/-- What it stores into the gradient of the rotary keys. -/
def diag13 (g : Vec F S1x64x4096 .f32) : View.Piece (Elt F) S1x64x4096 .f32 :=
  ⟨Rect.unit (k0_off4 i) S1x64x256.size (k0_off4_inb i), shapeCast S1x64x256
    (ropeBlock (diagC i x6) (diagR i x7) (diagMask i) x0 x1 x3 x4 x5 xd xq
      (ropesT (View.ld g (Rect.unit (k0_off4 i) S1x64x256.size (k0_off4_inb i))))) shapeCasts_S64x256_S1x64x256⟩
/-- What it stores into the transposed query gradients. -/
def diag14 : List (View.Piece (Elt F) S576x1536 .f32) :=
  [
   ⟨Rect.unit ![0, 1280] S576x256.size inb_S576x1536_S576x256_0_1280, shapeCast S576x256
      (queryT (diagC i x6) (diagR i x7) (diagT i x8) (diagMask i) x0 x1 x3 x4 x5 xd 5) shapeCasts_S576x256_S576x256⟩,
   ⟨Rect.unit ![0, 1024] S576x256.size inb_S576x1536_S576x256_0_1024, shapeCast S576x256
      (queryT (diagC i x6) (diagR i x7) (diagT i x8) (diagMask i) x0 x1 x3 x4 x5 xd 4) shapeCasts_S576x256_S576x256⟩,
   ⟨Rect.unit ![0, 768] S576x256.size inb_S576x1536_S576x256_0_768, shapeCast S576x256
      (queryT (diagC i x6) (diagR i x7) (diagT i x8) (diagMask i) x0 x1 x3 x4 x5 xd 3) shapeCasts_S576x256_S576x256⟩,
   ⟨Rect.unit ![0, 512] S576x256.size inb_S576x1536_S576x256_0_512, shapeCast S576x256
      (queryT (diagC i x6) (diagR i x7) (diagT i x8) (diagMask i) x0 x1 x3 x4 x5 xd 2) shapeCasts_S576x256_S576x256⟩,
   ⟨Rect.unit ![0, 256] S576x256.size inb_S576x1536_S576x256_0_256, shapeCast S576x256
      (queryT (diagC i x6) (diagR i x7) (diagT i x8) (diagMask i) x0 x1 x3 x4 x5 xd 1) shapeCasts_S576x256_S576x256⟩,
   ⟨Rect.unit ![0, 0] S576x256.size inb_S576x1536_S576x256_0_0, shapeCast S576x256
      (queryT (diagC i x6) (diagR i x7) (diagT i x8) (diagMask i) x0 x1 x3 x4 x5 xd 0) shapeCasts_S576x256_S576x256⟩]

/-- The query gradients stored at the end of a grid point, from the transposed ones. -/
def outL (a : Vec F S576x1536 .f32) : List (View.Piece (Elt F) S1x1536x576 .bf16) :=
  [
   ⟨Rect.unit ![0, 1280, 0] S1x256x576.size inb_S1x1536x576_S1x256x576_0_1280_0, k0_pay266 (aT a 5)⟩,
   ⟨Rect.unit ![0, 1024, 0] S1x256x576.size inb_S1x1536x576_S1x256x576_0_1024_0, k0_pay266 (aT a 4)⟩,
   ⟨Rect.unit ![0, 768, 0] S1x256x576.size inb_S1x1536x576_S1x256x576_0_768_0, k0_pay266 (aT a 3)⟩,
   ⟨Rect.unit ![0, 512, 0] S1x256x576.size inb_S1x1536x576_S1x256x576_0_512_0, k0_pay266 (aT a 2)⟩,
   ⟨Rect.unit ![0, 256, 0] S1x256x576.size inb_S1x1536x576_S1x256x576_0_256_0, k0_pay266 (aT a 1)⟩,
   ⟨Rect.unit ![0, 0, 0] S1x256x576.size inb_S1x1536x576_S1x256x576_0_0_0, k0_pay266 (aT a 0)⟩]

/-- The zeroing stores of the first grid point of a batch element. -/
def zero12 : View.Piece (Elt F) S1x4096x512 .f32 :=
  ⟨Rect.unit ![0, 0, 0] S1x4096x512.size (by decide), broadcast S1x4096x512 (Scalar.ofBits .f32 0x00000000#32)⟩
def zero13 : View.Piece (Elt F) S1x64x4096 .f32 :=
  ⟨Rect.unit ![0, 0, 0] S1x64x4096.size (by decide), broadcast S1x64x4096 (Scalar.ofBits .f32 0x00000000#32)⟩

end Cert.KernelIdeal.Tile

end
-- ==== Proof.Point.lean ====
/- What a grid point adds to the three gradients, as sums over the rows and the keys of its blocks, and that a block of 256
   keys adds its part of them. -/
module

public import proofs.«01_k».proof.Proof.Diag
public import Idealize.ShloMosaic.Lib.WordCmp

@[expose] public section

noncomputable section

namespace Cert.KernelIdeal.Tile

open Idealize.ShloMosaic Idealize.SL.Sem Idealize.ShloMosaic.ValueIdx
open Cert.KernelIdeal Cert.KernelIdeal.Gen
open scoped BigOperators

/-- The blocks a grid point reads, and its number `m` within the batch element: its rows are those of the tokens from `32 m` on. -/
structure Pt where
  x0 : Vec Ideal S1x1536x576 .fp8e4m3
  x1 : Vec Ideal S1x1536x512 .fp8e5m2
  x2 : Vec Ideal S1x1536x512 .bf16
  x3 : Vec Ideal S1x1x1536 .f32
  x4 : Vec Ideal S1x1x1536 .f32
  x5 : Vec Ideal S1x1x1536 .f32
  x6 : Vec Ideal S1x4096x512 .bf16
  x7 : Vec Ideal S1x4096x64 .bf16
  x8 : Vec Ideal S1x576x4096 .bf16
  m : ℕ

namespace Pt
variable (P : Pt) (κ : Fin 4096) (r : Fin 1536)

/-- The raw score of a key and a row. -/
def raw : EReal := (∑ d : Fin 512, P.x6 (ix3 0 κ d) * P.x0 (ix3 0 r (lo d))) + ∑ e : Fin 64, P.x7 (ix3 0 κ e) * P.x0 (ix3 0 r (hi e))
/-- The product of a key with the output gradient of a row. -/
def dp : EReal := ∑ d : Fin 512, P.x6 (ix3 0 κ d) * P.x1 (ix3 0 r d)
/-- The probability, where the key is visible to the row. -/
def pm : EReal :=
  if κ.val ≤ 32 * P.m + r.val / 48 then Ideal.exp2 (P.raw κ r * (P.x3 (ix3 0 0 r) * scaleLog2e) - P.x4 (ix3 0 0 r) * log2e) else 0
/-- The gradient of the score. -/
def ds : EReal := (P.pm κ r * (P.dp κ r - delta P.x1 P.x2 r)) * (P.x5 (ix3 0 0 r) * scale)
/-- What a row adds to the gradient of a key. -/
def keyTerm (d : Fin 512) : EReal :=
  (P.ds κ r * P.x3 (ix3 0 0 r)) * P.x0 (ix3 0 r (lo d)) + (P.pm κ r * P.x5 (ix3 0 0 r)) * P.x1 (ix3 0 r d)
/-- What a row adds to the gradient of a rotary key. -/
def ropeTerm (e : Fin 64) : EReal := P.x0 (ix3 0 r (hi e)) * (P.ds κ r * P.x3 (ix3 0 0 r))
/-- What a key adds to the gradient of a query. -/
def queryTerm (d : Fin 576) : EReal := P.x8 (ix3 0 d κ) * P.ds κ r
/-- What the grid point adds to the gradients of a key and of a rotary key, and the gradient of a query. -/
def keyAdd (d : Fin 512) : EReal := ∑ r, P.keyTerm κ r d
def ropeAdd (e : Fin 64) : EReal := ∑ r, P.ropeTerm κ r e
def query (d : Fin 576) : EReal := ∑ κ, P.queryTerm κ r d

/-- A key beyond the last token of the grid point adds nothing. -/
theorem pm_zero (h : 32 * P.m + 32 ≤ κ.val) : P.pm κ r = 0 := if_neg (by have := r.isLt; omega)
theorem ds_zero (h : 32 * P.m + 32 ≤ κ.val) : P.ds κ r = 0 := by unfold ds; rw [P.pm_zero κ r h, zero_mul, zero_mul]
theorem keyAdd_zero (d : Fin 512) (h : 32 * P.m + 32 ≤ κ.val) : P.keyAdd κ d = 0 :=
  Finset.sum_eq_zero fun r _ => by
    unfold keyTerm
    rw [P.pm_zero κ r h, P.ds_zero κ r h, zero_mul, zero_mul, zero_mul, zero_mul, add_zero]
theorem ropeAdd_zero (e : Fin 64) (h : 32 * P.m + 32 ≤ κ.val) : P.ropeAdd κ e = 0 :=
  Finset.sum_eq_zero fun r _ => by
    unfold ropeTerm
    rw [P.ds_zero κ r h, zero_mul, mul_zero]
theorem queryTerm_zero (d : Fin 576) (h : 32 * P.m + 32 ≤ κ.val) : P.queryTerm κ r d = 0 := by
  unfold queryTerm
  rw [P.ds_zero κ r h, mul_zero]

end Pt

/-- A block of keys as the kernel has it: key `k` of it is key `kk k`, `mk` masks by visibility, and the two scratch arrays hold
the row sums and the transposed rotary lanes. -/
structure Holds (P : Pt) (kk : Fin 256 → Fin 4096) (c : FVec Ideal S256x512 .bf16) (kr : FVec Ideal S256x64 .bf16)
    (mk : Fin 6 → FVec Ideal S256x256 .f32 → FVec Ideal S256x256 .f32) (xd : Vec Ideal S1x1536 .f32) (xq : Vec Ideal S64x1536 .bf16) : Prop where
  hc : ∀ k d, c (ix2 k d) = P.x6 (ix3 0 (kk k) d)
  hr : ∀ k e, kr (ix2 k e) = P.x7 (ix3 0 (kk k) e)
  hm : ∀ n p k t, mk n p (ix2 k t) = if (kk k).val ≤ 32 * P.m + (row n t).val / 48 then p (ix2 k t) else 0
  hd : ∀ r, xd (ix2 0 r) = delta P.x1 P.x2 r
  hq : ∀ e r, xq (ix2 e r) = P.x0 (ix3 0 r (hi e))

section Block
variable {P : Pt} {kk : Fin 256 → Fin 4096} {c : FVec Ideal S256x512 .bf16} {kr : FVec Ideal S256x64 .bf16}
  {mk : Fin 6 → FVec Ideal S256x256 .f32 → FVec Ideal S256x256 .f32} {xd : Vec Ideal S1x1536 .f32} {xq : Vec Ideal S64x1536 .bf16}
  (H : Holds P kk c kr mk xd xq)
include H

theorem pT_apply (n : Fin 6) (k t : Fin 256) : pT c kr mk P.x0 P.x3 P.x4 n (ix2 k t) = P.pm (kk k) (row n t) := by
  unfold pT Pt.pm
  rw [H.hm, prob_apply, score_apply, vT_apply, vT_apply]
  congr 4
  refine congrArg₂ (· + ·) (Finset.sum_congr rfl fun d _ => ?_) (Finset.sum_congr rfl fun e _ => ?_)
  · rw [H.hc, qT_apply]
  · rw [H.hr, rT_apply]

theorem sT_apply (n : Fin 6) (k t : Fin 256) :
    sT c kr mk P.x0 P.x1 P.x3 P.x4 P.x5 xd n (ix2 k t) = P.ds (kk k) (row n t) := by
  unfold sT Pt.ds
  rw [dscore_apply, pT_apply H, dprob_apply, vT_apply, eT_apply, H.hd]
  congr 3
  refine Finset.sum_congr rfl fun d _ => ?_
  rw [H.hc, dT_apply]

theorem keyStep_apply (n : Fin 6) (acc : FVec Ideal S256x512 .f32) (k : Fin 256) (d : Fin 512) :
    keyStep c kr mk P.x0 P.x1 P.x3 P.x4 P.x5 xd n acc (ix2 k d) = acc (ix2 k d) + ∑ t : Fin 256, P.keyTerm (kk k) (row n t) d := by
  unfold keyStep
  rw [addKeys_apply, add_assoc, ← Finset.sum_add_distrib]
  refine congrArg (acc (ix2 k d) + ·) (Finset.sum_congr rfl fun t _ => ?_)
  rw [scaled_apply, scaled_apply, sT_apply H, truncf_apply, pT_apply H, vT_apply, vT_apply, qT_apply, dT_apply]
  rfl

theorem ropeStep_apply (n : Fin 6) (acc : FVec Ideal S64x256 .f32) (e : Fin 64) (k : Fin 256) :
    ropeStep c kr mk P.x0 P.x1 P.x3 P.x4 P.x5 xd xq n acc (ix2 e k) = acc (ix2 e k) + ∑ t : Fin 256, P.ropeTerm (kk k) (row n t) e := by
  unfold ropeStep
  rw [addRopes_apply]
  refine congrArg (acc (ix2 e k) + ·) (Finset.sum_congr rfl fun t _ => ?_)
  rw [scaled_apply, sT_apply H, tT_apply, H.hq, vT_apply]
  rfl

theorem keyBlock_apply (acc : FVec Ideal S256x512 .f32) (k : Fin 256) (d : Fin 512) :
    keyBlock c kr mk P.x0 P.x1 P.x3 P.x4 P.x5 xd acc (ix2 k d) = acc (ix2 k d) + P.keyAdd (kk k) d := by
  unfold keyBlock Pt.keyAdd
  rw [keyStep_apply H, keyStep_apply H, keyStep_apply H, keyStep_apply H, keyStep_apply H, keyStep_apply H, sum_rows, Fin.sum_univ_six]
  simp only [add_assoc]

theorem ropeBlock_apply (acc : FVec Ideal S64x256 .f32) (e : Fin 64) (k : Fin 256) :
    ropeBlock c kr mk P.x0 P.x1 P.x3 P.x4 P.x5 xd xq acc (ix2 e k) = acc (ix2 e k) + P.ropeAdd (kk k) e := by
  unfold ropeBlock Pt.ropeAdd
  rw [ropeStep_apply H, ropeStep_apply H, ropeStep_apply H, ropeStep_apply H, ropeStep_apply H, ropeStep_apply H, sum_rows, Fin.sum_univ_six]
  simp only [add_assoc]

theorem queryT_apply {kt : FVec Ideal S576x256 .bf16} (ht : ∀ d k, kt (ix2 d k) = P.x8 (ix3 0 d (kk k)))
    (n : Fin 6) (d : Fin 576) (t : Fin 256) :
    queryT c kr kt mk P.x0 P.x1 P.x3 P.x4 P.x5 xd n (ix2 d t) = ∑ k : Fin 256, P.queryTerm (kk k) (row n t) d := by
  unfold queryT
  rw [dquery_apply]
  refine Finset.sum_congr rfl fun k _ => ?_
  rw [sT_apply H, ht]
  rfl

end Block

/-! ## The mask of the diagonal block -/

theorem tokW_eq (i : grid0.Coords) : tokW i = BitVec.ofNat 32 (32 * (i 1).val) := by
  have h : ∀ m : Fin 128, Scalar.muli (BitVec.ofNat 32 m.val) 32#32 = BitVec.ofNat 32 (32 * m.val) := by decide +kernel
  exact h (i 1)
theorem keyW_eq (i : grid0.Coords) : keyW i = BitVec.ofNat 32 (256 * ((32 * (i 1).val) / 256)) := by
  have h : ∀ m : Fin 128, Scalar.muli (Scalar.divsi (Scalar.muli (BitVec.ofNat 32 m.val) 32#32) 256#32) 256#32
      = BitVec.ofNat 32 (256 * ((32 * m.val) / 256)) := by decide +kernel
  exact h (i 1)

/-- The kernel's division of a row number by 48, rounded down. -/
def divW (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 48#32 0#32)) (Scalar.extui (Scalar.cmpi .slt 48#32 0#32))))
      (IntOp.cmpi .ne (IntOp.remsi .vector x 48#32) 0#32))
    (IntOp.subi (IntOp.divsi .vector x 48#32) 1#32) (IntOp.divsi .vector x 48#32)

theorem divW_eq : ∀ r : Fin 1536, divW (BitVec.ofNat 32 r.val) = BitVec.ofNat 32 (r.val / 48) := by decide +kernel

theorem visW_apply (a b o : BitVec 32) (k t : Fin 256) :
    visW a b o (ix2 k t) = IntOp.cmpi .sle (IntOp.addi b (BitVec.ofNat 32 k.val)) (IntOp.addi a (divW (IntOp.addi o (BitVec.ofNat 32 t.val)))) := by
  have h0 : iota .tc S256x256 32 [0] iota_S256x256_d0_w32 (ix2 k t) = BitVec.ofNat 32 k.val :=
    congrArg (BitVec.ofNat 32) (by show 0 * 256 + k.val = k.val; omega)
  have h1 : iota .tc S256x256 32 [1] iota_S256x256_d1_w32 (ix2 k t) = BitVec.ofNat 32 t.val :=
    congrArg (BitVec.ofNat 32) (by show 0 * 256 + t.val = t.val; omega)
  rw [← h0, ← h1]
  rfl

theorem visW_eq (i : grid0.Coords) (n : Fin 6) (k t : Fin 256) :
    visW (tokW i) (keyW i) (![0#32, 256#32, 512#32, 768#32, 1024#32, 1280#32] n) (ix2 k t)
      = BitVec.ofBool (decide (256 * ((32 * (i 1).val) / 256) + k.val ≤ 32 * (i 1).val + (row n t).val / 48)) := by
  have ho : (![0#32, 256#32, 512#32, 768#32, 1024#32, 1280#32] n : BitVec 32) = BitVec.ofNat 32 (256 * n.val) := by
    revert n; decide
  have hi : (i 1).val < 128 := (i 1).isLt
  rw [visW_apply, tokW_eq, keyW_eq, ho]
  have hd : divW (IntOp.addi (BitVec.ofNat 32 (256 * n.val)) (BitVec.ofNat 32 t.val)) = BitVec.ofNat 32 ((row n t).val / 48) := by
    rw [← divW_eq (row n t)]
    exact congrArg divW (BitVec.ofNat_add ..).symm
  rw [hd]
  have ha : IntOp.addi (BitVec.ofNat 32 (256 * ((32 * (i 1).val) / 256))) (BitVec.ofNat 32 k.val)
      = BitVec.ofNat 32 (256 * ((32 * (i 1).val) / 256) + k.val) := (BitVec.ofNat_add ..).symm
  have hb : IntOp.addi (BitVec.ofNat 32 (32 * (i 1).val)) (BitVec.ofNat 32 ((row n t).val / 48))
      = BitVec.ofNat 32 (32 * (i 1).val + (row n t).val / 48) := (BitVec.ofNat_add ..).symm
  rw [ha, hb]
  exact WordCmp.cmpi_sle_ofNat (by omega) (by have := (row n t).isLt; omega)

theorem diagMask_apply (i : grid0.Coords) (n : Fin 6) (p : FVec Ideal S256x256 .f32) (k t : Fin 256) :
    diagMask i n p (ix2 k t) = if 256 * ((32 * (i 1).val) / 256) + k.val ≤ 32 * (i 1).val + (row n t).val / 48 then p (ix2 k t) else 0 := by
  unfold diagMask
  rw [select_apply, visW_eq, broadcast_apply]
  by_cases h : 256 * ((32 * (i 1).val) / 256) + k.val ≤ 32 * (i 1).val + (row n t).val / 48
  · rw [if_pos h, decide_eq_true h]; rfl
  · rw [if_neg h, decide_eq_false h]; exact Ideal.ofBits_zero_f32

end Cert.KernelIdeal.Tile

end
-- ==== Proof.Pieces.lean ====
/- The pieces the two loops of a grid point store, over the contents the diagonal block left. -/
module

public import proofs.«01_k».proof.Proof.Diag

@[expose] public section

set_option maxRecDepth 16384

noncomputable section

namespace Cert.KernelIdeal.Hand

open Idealize.ShloMosaic Idealize.SL.Sem Idealize.ShloMosaic.ValueIdx
open Cert.KernelIdeal Cert.KernelIdeal.Gen Cert.KernelIdeal.Tile

variable {F : FTy → Type} [FloatOps F] [Named F]

/-- The pieces of the loop over the blocks before the diagonal one. -/
def pieces1 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (v767 : FVec F S64x256 .f32) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16)
  (d : Vec F S1x1536x512 .fp8e5m2) (o : Vec F S1x1536x512 .bf16) (q : Vec F S1x1536x576 .fp8e4m3) (G12 : BufTy.Contents (Elt F) arg12.view.ty) (G13 : BufTy.Contents (Elt F) arg13.view.ty) (G14 : BufTy.Contents (Elt F) arg14.view.ty) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (blkW i) (keyW i) v767 (harg2.unread x0) (harg3.unread x1) (harg5.unread x3) (harg6.unread x4) (harg7.unread x5) (harg8.unread x6) (harg9.unread x7) (harg10.unread x8) (arg15.view.writes (Elt F) arg15.view.junk (deltaL d o)) (arg16.view.writes (Elt F) arg16.view.junk (ropeL q)) G12 G13 G14 (k0_t1_loop i).trips

/-- The pieces of the remainder loop. -/
def pieces2 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (v767 : FVec F S64x256 .f32) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16)
  (d : Vec F S1x1536x512 .fp8e5m2) (o : Vec F S1x1536x512 .bf16) (q : Vec F S1x1536x576 .fp8e4m3) (G12 : BufTy.Contents (Elt F) arg12.view.ty) (G13 : BufTy.Contents (Elt F) arg13.view.ty) (G14 : BufTy.Contents (Elt F) arg14.view.ty) :=
  pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (blkW i) (keyW i) v767 (remW i) (harg2.unread x0) (harg3.unread x1) (harg5.unread x3) (harg6.unread x4) (harg7.unread x5) (harg8.unread x6) (harg9.unread x7) (harg10.unread x8) (arg15.view.writes (Elt F) arg15.view.junk (deltaL d o)) (arg16.view.writes (Elt F) arg16.view.junk (ropeL q)) G12 G13 G14 (k0_t2_loop i).trips

/-- The remainder loop makes no trip. -/
theorem trips2 (i : grid0.Coords) : (k0_t2_loop i).trips = 0 := by
  have h : ∀ m : Fin 128, ∀ j : grid0.Coords, (j 1).val = m.val → (k0_t2_loop j).trips = 0 := by
    intro m j hj
    unfold k0_t2_loop
    rw [hj]
    clear hj
    revert m
    decide +kernel
  exact h (i 1) i rfl

/-- The loop over the blocks before the diagonal one makes one trip for each of them. -/
theorem trips1 (i : grid0.Coords) : (k0_t1_loop i).trips = (32 * (i 1).val) / 256 := by
  have h : ∀ m : Fin 128, ∀ j : grid0.Coords, (j 1).val = m.val → (k0_t1_loop j).trips = (32 * m.val) / 256 := by
    intro m j hj
    unfold k0_t1_loop
    rw [hj]
    clear hj
    revert m
    decide +kernel
  exact h (i 1) i rfl

theorem pieces2_eq (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (v767 : FVec F S64x256 .f32) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16)
  (d : Vec F S1x1536x512 .fp8e5m2) (o : Vec F S1x1536x512 .bf16) (q : Vec F S1x1536x576 .fp8e4m3) (G12 : BufTy.Contents (Elt F) arg12.view.ty) (G13 : BufTy.Contents (Elt F) arg13.view.ty) (G14 : BufTy.Contents (Elt F) arg14.view.ty) :
    pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 x0 x1 x2 x3 x4 x5 x6 x7 x8 d o q G12 G13 G14 = ([], [], []) := by
  unfold pieces2
  rw [trips2]
  exact pb_k0_t2.eq_1 ..

end Cert.KernelIdeal.Hand

end
-- ==== Proof.Loop.lean ====
/- The loop over the blocks of keys before the diagonal one: what the three arrays it accumulates into hold after any number
   of trips. -/
module

public import proofs.«01_k».proof.Proof.Point
public import proofs.«01_k».proof.Proof.Pieces

@[expose] public section

set_option maxRecDepth 16384

noncomputable section

namespace Cert.KernelIdeal.Tile

open Idealize.ShloMosaic Idealize.SL.Sem Idealize.ShloMosaic.ValueIdx
open Cert.KernelIdeal Cert.KernelIdeal.Gen
open scoped BigOperators

/-! ## Loads and stores of a block of keys -/

/-- The block of a key, and its position in it. -/
theorem key_surj (κ : Fin 4096) : ∃ (j : Fin 16) (k : Fin 256), key j k = κ :=
  ⟨⟨κ.val / 256, by omega⟩, ⟨κ.val % 256, by omega⟩, Fin.ext (Nat.div_add_mod κ.val 256)⟩

section Mid
variable {Val : EltTy → Type} {e : EltTy} {W : ℕ}

theorem ld_mid (x : (⟨3, ![1, 4096, W]⟩ : Shape).Idx → Val e) (off : Fin 3 → ℕ) (inb) (j : Fin 16) (hoff : off = ![0, 256 * j.val, 0])
    (k : Fin 256) (d : Fin W) :
    View.ld (S := ⟨3, ![1, 4096, W]⟩) x (Rect.unit off (⟨3, ![1, 256, W]⟩ : Shape).size inb) (ix3 0 k d) = x (ix3 0 (key j k) d) := by
  subst hoff
  exact congrArg x (funext fun a => Fin.ext (by
    match a with
    | ⟨0, _⟩ => rfl
    | ⟨1, _⟩ => exact congrArg (256 * j.val + ·) (Nat.one_mul _)
    | ⟨2, _⟩ => show 0 + 1 * d.val = d.val; omega))

theorem ld_last (x : (⟨3, ![1, W, 4096]⟩ : Shape).Idx → Val e) (off : Fin 3 → ℕ) (inb) (j : Fin 16) (hoff : off = ![0, 0, 256 * j.val])
    (d : Fin W) (k : Fin 256) :
    View.ld (S := ⟨3, ![1, W, 4096]⟩) x (Rect.unit off (⟨3, ![1, W, 256]⟩ : Shape).size inb) (ix3 0 d k) = x (ix3 0 d (key j k)) := by
  subst hoff
  exact congrArg x (funext fun a => Fin.ext (by
    match a with
    | ⟨0, _⟩ => rfl
    | ⟨1, _⟩ => show 0 + 1 * d.val = d.val; omega
    | ⟨2, _⟩ => exact congrArg (256 * j.val + ·) (Nat.one_mul _)))

variable {sig : RefSig} {κ' : Kind} {sp : Space}

theorem st_mid (v : View sig κ' sp (⟨3, ![1, 4096, W]⟩ : Shape) e) (f : v.ty.Contents Val) (off : Fin 3 → ℕ) (inb)
    (w : (⟨2, ![256, W]⟩ : Shape).Idx → Val e) (hs) (L) (j : Fin 16) (hoff : off = ![0, 256 * j.val, 0]) (j' : Fin 16) (k : Fin 256) (d : Fin W) :
    v.read Val (v.writes Val f (⟨Rect.unit off (⟨3, ![1, 256, W]⟩ : Shape).size inb, shapeCast (⟨3, ![1, 256, W]⟩ : Shape) w hs⟩ :: L)) (ix3 0 (key j' k) d)
      = if j' = j then w (ix2 k d) else v.read Val (v.writes Val f L) (ix3 0 (key j' k) d) := by
  by_cases h : j' = j
  · subst h
    rw [if_pos rfl]
    refine (View.read_writes_cons_unit_of_mem v f inb _ L _ (ix3 0 k d) hoff (fun a => ?_)).trans (shapeCast_ab_1ab_apply w hs 0 k d)
    match a with
    | ⟨0, _⟩ => rfl
    | ⟨1, _⟩ => rfl
    | ⟨2, _⟩ => exact (Nat.zero_add _).symm
  · rw [if_neg h]
    refine View.read_writes_cons_unit_of_not_mem v f inb _ L _ hoff (1 : Fin 3) ?_
    show 256 * j'.val + k.val < 256 * j.val ∨ 256 * j.val + 256 ≤ 256 * j'.val + k.val
    have := k.isLt
    have : j'.val ≠ j.val := fun hh => h (Fin.ext hh)
    omega

theorem st_last (v : View sig κ' sp (⟨3, ![1, W, 4096]⟩ : Shape) e) (f : v.ty.Contents Val) (off : Fin 3 → ℕ) (inb)
    (w : (⟨2, ![W, 256]⟩ : Shape).Idx → Val e) (hs) (L) (j : Fin 16) (hoff : off = ![0, 0, 256 * j.val]) (j' : Fin 16) (k : Fin 256) (d : Fin W) :
    v.read Val (v.writes Val f (⟨Rect.unit off (⟨3, ![1, W, 256]⟩ : Shape).size inb, shapeCast (⟨3, ![1, W, 256]⟩ : Shape) w hs⟩ :: L)) (ix3 0 d (key j' k))
      = if j' = j then w (ix2 d k) else v.read Val (v.writes Val f L) (ix3 0 d (key j' k)) := by
  by_cases h : j' = j
  · subst h
    rw [if_pos rfl]
    refine (View.read_writes_cons_unit_of_mem v f inb _ L _ (ix3 0 d k) hoff (fun a => ?_)).trans (shapeCast_ab_1ab_apply w hs 0 d k)
    match a with
    | ⟨0, _⟩ => rfl
    | ⟨1, _⟩ => exact (Nat.zero_add _).symm
    | ⟨2, _⟩ => rfl
  · rw [if_neg h]
    refine View.read_writes_cons_unit_of_not_mem v f inb _ L _ hoff (2 : Fin 3) ?_
    show 256 * j'.val + k.val < 256 * j.val ∨ 256 * j.val + 256 ≤ 256 * j'.val + k.val
    have := k.isLt
    have : j'.val ≠ j.val := fun hh => h (Fin.ext hh)
    omega

end Mid

/-! ## The loop -/

/-- What the first `n` blocks of keys add to the gradient of a query. -/
def queryUpTo (P : Pt) (n : ℕ) (r : Fin 1536) (d : Fin 576) : EReal :=
  ∑ j : Fin 16, if j.val < n then ∑ t : Fin 256, P.queryTerm (key j t) r d else 0

theorem queryUpTo_zero (P : Pt) (r : Fin 1536) (d : Fin 576) : queryUpTo P 0 r d = 0 :=
  Finset.sum_eq_zero fun j _ => if_neg (Nat.not_lt_zero _)

theorem queryUpTo_succ (P : Pt) (j : Fin 16) (r : Fin 1536) (d : Fin 576) :
    queryUpTo P (j.val + 1) r d = queryUpTo P j.val r d + ∑ t : Fin 256, P.queryTerm (key j t) r d := by
  unfold queryUpTo
  have h : ∑ t : Fin 256, P.queryTerm (key j t) r d
      = ∑ j' : Fin 16, if j' = j then ∑ t : Fin 256, P.queryTerm (key j' t) r d else 0 := by
    rw [Finset.sum_ite_eq' Finset.univ j, if_pos (Finset.mem_univ j)]
  rw [h, ← Finset.sum_add_distrib]
  refine Finset.sum_congr rfl fun j' _ => ?_
  by_cases h1 : j'.val < j.val
  · rw [if_pos h1, if_pos (by omega), if_neg (fun hh => by rw [hh] at h1; omega), add_zero]
  · by_cases h2 : j' = j
    · rw [if_neg h1, if_pos h2, if_pos (by rw [h2]; omega), zero_add]
    · have : j'.val ≠ j.val := fun hh => h2 (Fin.ext hh)
      rw [if_neg h1, if_neg h2, if_neg (by omega), add_zero]

/-- What the three arrays hold after the trips whose pieces are `L`, from what they held before: the gradients of the keys of
the first `n` blocks have been added to. -/
structure After (P : Pt) (n : ℕ) (g12 h12 : Vec Ideal S1x4096x512 .f32) (g13 h13 : Vec Ideal S1x64x4096 .f32)
    (g14 h14 : Vec Ideal S576x1536 .f32) : Prop where
  k : ∀ κ d, h12 (ix3 0 κ d) = g12 (ix3 0 κ d) + if κ.val < 256 * n then P.keyAdd κ d else 0
  r : ∀ e κ, h13 (ix3 0 e κ) = g13 (ix3 0 e κ) + if κ.val < 256 * n then P.ropeAdd κ e else 0
  q : ∀ d r, h14 (ix2 d r) = g14 (ix2 d r) + queryUpTo P n r d

section Loop
variable (P : Pt) (𝒱 : Variants) (c : Dev nD) (bd : Option 𝒱.V) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (v178 v180 : BitVec 32) (v767 : FVec Ideal S64x256 .f32) (X2 : BufTy.Contents (Elt Ideal) arg2.view.ty) (X3 : BufTy.Contents (Elt Ideal) arg3.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X15 : BufTy.Contents (Elt Ideal) arg15.view.ty) (X16 : BufTy.Contents (Elt Ideal) arg16.view.ty) (G12 : BufTy.Contents (Elt Ideal) arg12.view.ty) (G13 : BufTy.Contents (Elt Ideal) arg13.view.ty) (G14 : BufTy.Contents (Elt Ideal) arg14.view.ty)
  (hm : P.m = (i 1).val) (h2 : arg2.view.read (Elt Ideal) X2 = P.x0) (h3 : arg3.view.read (Elt Ideal) X3 = P.x1) (h5 : arg5.view.read (Elt Ideal) X5 = P.x3) (h6 : arg6.view.read (Elt Ideal) X6 = P.x4)
  (h7 : arg7.view.read (Elt Ideal) X7 = P.x5) (h8 : arg8.view.read (Elt Ideal) X8 = P.x6) (h9 : arg9.view.read (Elt Ideal) X9 = P.x7) (h10 : arg10.view.read (Elt Ideal) X10 = P.x8)
  (hd : ∀ r, arg15.view.read (Elt Ideal) X15 (ix2 0 r) = delta P.x1 P.x2 r) (hq : ∀ e r, arg16.view.read (Elt Ideal) X16 (ix2 e r) = P.x0 (ix3 0 r (hi e)))

include hm h8 h9 hd hq in
/-- A block before the diagonal one, as the kernel has it. -/
theorem trip_holds (k : Fin (k0_t1_loop i).trips) (j : Fin 16) (hj : j.val = k.val) :
    Holds P (key j) (keys (View.ld (arg8.view.read (Elt Ideal) X8) (Rect.unit (k0_off5 i k) S1x256x512.size (k0_off5_inb i k)))) (ropes (View.ld (arg9.view.read (Elt Ideal) X9) (Rect.unit (k0_off6 i k) S1x256x64.size (k0_off6_inb i k)))) noMask (arg15.view.read (Elt Ideal) X15) (arg16.view.read (Elt Ideal) X16) where
  hc := fun k' d => by
    rw [keys_apply, h8]
    exact ld_mid _ (k0_off5 i k) _ j (by rw [k0_off5_eq, hj]) k' d
  hr := fun k' e => by
    rw [ropes_apply, h9]
    exact ld_mid _ (k0_off6 i k) _ j (by rw [k0_off6_eq, hj]) k' e
  hm := fun n p k' t => by
    have hk := k.isLt
    have ht := Hand.trips1 i
    rw [if_pos (by show 256 * j.val + k'.val ≤ _; have := k'.isLt; rw [hm]; omega)]
    rfl
  hd := hd
  hq := hq

include hm h2 h3 h5 h6 h7 h8 h9 h10 hd hq in
theorem loop_after (n : ℕ) (hn : n ≤ (k0_t1_loop i).trips) :
    After P n (arg12.view.read (Elt Ideal) G12) (arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v178 v180 v767 X2 X3 X5 X6 X7 X8 X9 X10 X15 X16 G12 G13 G14 n).1))
      (arg13.view.read (Elt Ideal) G13) (arg13.view.read (Elt Ideal) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v178 v180 v767 X2 X3 X5 X6 X7 X8 X9 X10 X15 X16 G12 G13 G14 n).2.1))
      (arg14.view.read (Elt Ideal) G14) (arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v178 v180 v767 X2 X3 X5 X6 X7 X8 X9 X10 X15 X16 G12 G13 G14 n).2.2)) := by
  induction n with
  | zero =>
    rw [pb_k0_t1.eq_1]
    exact ⟨fun κ d => by rw [if_neg (by omega), add_zero]; rfl, fun e κ => by rw [if_neg (by omega), add_zero]; rfl,
      fun d r => by rw [queryUpTo_zero, add_zero]; rfl⟩
  | succ n ih =>
    have I := ih (by omega)
    have h15 : (k0_t1_loop i).trips ≤ 15 := (k0_t1_abs i).2.1
    let k : Fin (k0_t1_loop i).trips := ⟨n, by omega⟩
    obtain ⟨j, hj⟩ : ∃ j : Fin 16, j.val = k.val := ⟨⟨n, by omega⟩, rfl⟩
    have hjn : j.val = n := hj
    have H := trip_holds P i arg8 arg9 arg15 arg16 X8 X9 X15 X16 hm h8 h9 hd hq k j hj
    have hs := pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v178 v180 v767 X2 X3 X5 X6 X7 X8 X9 X10 X15 X16 G12 G13 G14 k
    rw [show k.val + 1 = n + 1 from rfl, show k.val = n from rfl] at hs
    rw [hs]
    generalize hpb : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v178 v180 v767 X2 X3 X5 X6 X7 X8 X9 X10 X15 X16 G12 G13 G14 n) = pbn at I ⊢
    rw [trip_pieces, h2, h3, h5, h6, h7]
    refine ⟨fun κ d => ?_, fun e κ => ?_, fun d r => ?_⟩
    · obtain ⟨j', k', rfl⟩ := key_surj κ
      rw [View.writes_append]
      refine (st_mid _ _ (k0_off5 i k) _ _ _ _ j (by rw [k0_off5_eq, hj]) j' k' d).trans ?_
      have hk' := k'.isLt
      by_cases hjj : j' = j
      · subst hjj
        rw [if_pos rfl, keyBlock_apply H, keyGrads_apply]
        rw [if_pos (by show 256 * j'.val + k'.val < _; omega)]
        refine congrArg (· + _) ((ld_mid _ (k0_off5 i k) _ j' (by rw [k0_off5_eq, hj]) k' d).trans ((I.k (key j' k') d).trans ?_))
        rw [if_neg (by show ¬ 256 * j'.val + k'.val < _; omega), add_zero]
      · have : j'.val ≠ j.val := fun hh => hjj (Fin.ext hh)
        rw [if_neg hjj]
        refine (I.k (key j' k') d).trans (congrArg (_ + ·) (if_congr ?_ rfl rfl))
        show 256 * j'.val + k'.val < _ ↔ 256 * j'.val + k'.val < _
        omega
    · obtain ⟨j', k', rfl⟩ := key_surj κ
      rw [View.writes_append]
      refine (st_last _ _ (k0_off8 i k) _ _ _ _ j (by rw [k0_off8_eq, hj]) j' k' e).trans ?_
      have hk' := k'.isLt
      by_cases hjj : j' = j
      · subst hjj
        rw [if_pos rfl, ropeBlock_apply H, ropesT_apply]
        rw [if_pos (by show 256 * j'.val + k'.val < _; omega)]
        refine congrArg (· + _) ((ld_last _ (k0_off8 i k) _ j' (by rw [k0_off8_eq, hj]) e k').trans ((I.r e (key j' k')).trans ?_))
        rw [if_neg (by show ¬ 256 * j'.val + k'.val < _; omega), add_zero]
      · have : j'.val ≠ j.val := fun hh => hjj (Fin.ext hh)
        rw [if_neg hjj]
        refine (I.r e (key j' k')).trans (congrArg (_ + ·) (if_congr ?_ rfl rfl))
        show 256 * j'.val + k'.val < _ ↔ 256 * j'.val + k'.val < _
        omega
    · obtain ⟨n', t, rfl⟩ := row_surj r
      rw [View.writes_append]
      refine (read_six _ _ _ _ _ _ _ _ _ _ _ _ _ _ d n' t).trans ?_
      have ht : ∀ d k', (keysT (View.ld (arg10.view.read (Elt Ideal) X10) (Rect.unit (k0_off7 i k) S1x576x256.size (k0_off7_inb i k)))) (ix2 d k') = P.x8 (ix3 0 d (key j k')) := fun d k' => by
        rw [keysT_apply, h10]
        exact ld_last _ (k0_off7 i k) _ j (by rw [k0_off7_eq, hj]) d k'
      have key6 : ∀ n' : Fin 6, shapeCast S576x256 (addf (aT (arg14.view.read (Elt Ideal) (arg14.view.writes (Elt Ideal) G14 pbn.2.2)) n')
          (queryT (keys (View.ld (arg8.view.read (Elt Ideal) X8) (Rect.unit (k0_off5 i k) S1x256x512.size (k0_off5_inb i k)))) (ropes (View.ld (arg9.view.read (Elt Ideal) X9) (Rect.unit (k0_off6 i k) S1x256x64.size (k0_off6_inb i k)))) (keysT (View.ld (arg10.view.read (Elt Ideal) X10) (Rect.unit (k0_off7 i k) S1x576x256.size (k0_off7_inb i k)))) noMask P.x0 P.x1 P.x3 P.x4 P.x5 (arg15.view.read (Elt Ideal) X15) n')) shapeCasts_S576x256_S576x256 (ix2 d t)
          = arg14.view.read (Elt Ideal) G14 (ix2 d (row n' t)) + queryUpTo P (n + 1) (row n' t) d := fun n' => by
        rw [shapeCast_self, addf_apply, aT_apply, queryT_apply H ht, I.q, ← hjn, queryUpTo_succ, add_assoc]
      fin_cases n'
      · exact key6 0
      · exact key6 1
      · exact key6 2
      · exact key6 3
      · exact key6 4
      · exact key6 5

end Loop

end Cert.KernelIdeal.Tile

end
-- ==== Proof.Kit.lean ====
/- What the two runs of the kernel's body share: when the body's one branch is taken, the staging and scratch memrefs a
   grid point is given, and the invariant of the scratch buffers. -/
module

public import proofs.«01_k».proof.Proof.Gen.KernelIdeal.Frame
public import proofs.«01_k».proof.Proof.Gen.KernelIdeal.Skeleton
public import proofs.«01_k».proof.Proof.Gen.KernelIdeal.Loops

@[expose] public section

-- the shapes are of production extents
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 128) — by arithmetic of the point. -/
theorem hcond0_0 : ∀ t : Fin cfg0.N, cond0_0 (grid0.coords t) ↔ t.val % 128 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 1 % 128 := Pipeline.Grid.coords_val t 1 (by decide) rfl
    simp only [cond0_0, e0, e1]
    word_cmp
   : ∀ t : Fin grid0.N, cond0_0 (grid0.coords t) ↔ t.val % 128 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x1536x576 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x512 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x576x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1536x576 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4096x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x4096 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S576x1536 .f32 := Memref.whole cc0_scratch0
abbrev scM0_1 : Memref sig .tc .vmem S1x1536 .f32 := Memref.whole cc0_scratch1
abbrev scM0_2 : Memref sig .tc .vmem S64x1536 .bf16 := Memref.whole cc0_scratch2

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.RunA.lean ====
/- The body at a batch's first grid point (the branch taken: the key gradients are first set to zero). -/
module

public import proofs.«01_k».proof.Proof.Kit

@[expose] public section

-- the shapes are of production extents
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the run's proof term is large
set_option maxHeartbeats 1600000 in
/-- The body at a batch's first grid point (the branch taken: the key gradients are first set to zero). On whole memrefs holding `x0` … `x14` the body runs
    and leaves the nine inputs as they were and the three results at contents the run finds. -/
def runA (c : Dev nD) (i : grid0.Coords) (arg2 : Memref sig .tc .vmem S1x1536x576 .fp8e4m3) (harg2 : arg2.IsWhole) (arg3 : Memref sig .tc .vmem S1x1536x512 .fp8e5m2) (harg3 : arg3.IsWhole) (arg4 : Memref sig .tc .vmem S1x1536x512 .bf16) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x1x1536 .f32) (harg7 : arg7.IsWhole) (arg8 : Memref sig .tc .vmem S1x4096x512 .bf16) (harg8 : arg8.IsWhole) (arg9 : Memref sig .tc .vmem S1x4096x64 .bf16) (harg9 : arg9.IsWhole) (arg10 : Memref sig .tc .vmem S1x576x4096 .bf16) (harg10 : arg10.IsWhole) (arg11 : Memref sig .tc .vmem S1x1536x576 .bf16) (harg11 : arg11.IsWhole) (arg12 : Memref sig .tc .vmem S1x4096x512 .f32) (harg12 : arg12.IsWhole) (arg13 : Memref sig .tc .vmem S1x64x4096 .f32) (harg13 : arg13.IsWhole) (arg14 : Memref sig .tc .vmem S576x1536 .f32) (harg14 : arg14.IsWhole) (arg15 : Memref sig .tc .vmem S1x1536 .f32) (harg15 : arg15.IsWhole) (arg16 : Memref sig .tc .vmem S64x1536 .bf16) (harg16 : arg16.IsWhole) (hc0 : cond0_0 i)
    (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    Σ' (y9 : Vec F S1x1536x576 .bf16) (y10 : Vec F S1x4096x512 .f32), { y11 : Vec F S1x64x4096 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_bwd_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_mla_bwd_main_eq_skeleton]; unfold cc0_mla_bwd_main_skel
    simp only [k0_part44_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; exact rfl
    isplitl [H10]
    · iexists _; isplitr; swap; · iexact H10
      ipureintro; exact rfl
    isplitl [H11]
    · iexists _; isplitr; swap; · iexact H11
      ipureintro; exact rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.KernelIdeal.Hand

end
-- ==== Proof.ValueA.lean ====
/- What the body leaves in the three result blocks at the first grid point of a batch element. -/
module

public import proofs.«01_k».proof.Proof.Pieces
public import proofs.«01_k».proof.Proof.RunA
import all proofs.«01_k».proof.Proof.RunA
import all proofs.«01_k».proof.Proof.Gen.KernelIdeal.Skeleton

@[expose] public section

set_option maxRecDepth 16384

noncomputable section

namespace Cert.KernelIdeal.Hand

open Idealize.ShloMosaic Idealize.SL.Sem Idealize.ShloMosaic.ValueIdx
open Cert.KernelIdeal Cert.KernelIdeal.Gen Cert.KernelIdeal.Tile

variable {F : FTy → Type} [FloatOps F] [Named F]

theorem runA_deltaL (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runA.sl.H13_6 c arg3 harg3 arg4 harg4 x1 x2
      = deltaL (arg3.view.read (Elt F) (harg3.unread x1)) (arg4.view.read (Elt F) (harg4.unread x2)) := by
  rfl

theorem runA_ropeL (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runA.sl.H14_6 c arg2 harg2 x0
      = ropeL (arg2.view.read (Elt F) (harg2.unread x0)) := by
  rfl

theorem runA_diag14 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runA.sl.H12_6 c i arg2 harg2 arg3 harg3 arg4 harg4 arg5 harg5 arg6 harg6 arg7 harg7 arg8 harg8 arg9 harg9 arg10 harg10 arg15 x0 x1 x2 x3 x4 x5 x6 x7 x8
      = diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))) := by
  rfl

theorem runA_rope (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runA.sl.r_44 c i arg2 harg2 arg3 harg3 arg4 harg4 arg5 harg5 arg6 harg6 arg7 harg7 arg8 harg8 arg9 harg9 arg13 arg15 arg16 x0 x1 x2 x3 x4 x5 x6 x7
      = (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) := by
  rfl

theorem runA_key (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    k0_pay252 (runA.sl.v605 c i arg3 harg3 arg8 harg8 x1 x6) (runA.sl.r_37 c i arg2 harg2 arg3 harg3 arg4 harg4 arg5 harg5 arg6 harg6 arg7 harg7 arg8 harg8 arg9 harg9 arg12 arg15 x0 x1 x2 x3 x4 x5 x6 x7) (runA.sl.r_39 c arg5 harg5 x3) (runA.sl.r_41 c arg7 harg7 x5) (runA.sl.r_42 c i arg2 harg2 arg5 harg5 arg6 harg6 arg8 harg8 arg9 harg9 x0 x3 x4 x6 x7) (runA.sl.r_43 i) k0_pay246 (runA.sl.v739 c arg3 harg3 arg4 harg4 arg15 x1 x2) (View.readAt (Elt F) arg2.view (Rect.toLoadRect (s := S1x1536x576) (Rect.unit ![0, 1280, 0] S1x256x512.size inb_S1x1536x576_S1x256x512_0_1280_0)) (harg2.unread x0)) (View.readAt (Elt F) arg3.view (Rect.toLoadRect (s := S1x1536x512) (Rect.unit ![0, 1280, 0] S1x256x512.size inb_S1x1536x512_S1x256x512_0_1280_0)) (harg3.unread x1))
      = shapeCast S1x256x512 (keyBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (keyGrads (View.ld (arg12.view.read (Elt F) (arg12.view.writes (Elt F) arg12.view.junk [zero12])) (Rect.unit (k0_off1 i) S1x256x512.size (k0_off1_inb i))))) shapeCasts_S256x512_S1x256x512 := by
  rfl

/-- The six pieces of the query gradients, as loads of the transposed accumulator. -/
theorem outL_covA (v : View sig .tc .vmem S576x1536 .f32) (L : List (View.Piece (Elt F) S576x1536 .f32)) :
    outL (v.read (Elt F) (v.writes (Elt F) v.junk L))
      = [⟨Rect.unit ![0, 1280, 0] S1x256x576.size inb_S1x1536x576_S1x256x576_0_1280_0, k0_pay266 (v.readCov L (Rect.toLoadRect (s := S576x1536) (Rect.unit ![0, 1280] S576x256.size inb_S576x1536_S576x256_0_1280)))⟩, ⟨Rect.unit ![0, 1024, 0] S1x256x576.size inb_S1x1536x576_S1x256x576_0_1024_0, k0_pay265 (v.readCov L (Rect.toLoadRect (s := S576x1536) (Rect.unit ![0, 1024] S576x256.size inb_S576x1536_S576x256_0_1024)))⟩, ⟨Rect.unit ![0, 768, 0] S1x256x576.size inb_S1x1536x576_S1x256x576_0_768_0, k0_pay264 (v.readCov L (Rect.toLoadRect (s := S576x1536) (Rect.unit ![0, 768] S576x256.size inb_S576x1536_S576x256_0_768)))⟩, ⟨Rect.unit ![0, 512, 0] S1x256x576.size inb_S1x1536x576_S1x256x576_0_512_0, k0_pay263 (k0_pay262 (v.readCov L (Rect.toLoadRect (s := S576x1536) (Rect.unit ![0, 512] S576x256.size inb_S576x1536_S576x256_0_512))))⟩, ⟨Rect.unit ![0, 256, 0] S1x256x576.size inb_S1x1536x576_S1x256x576_0_256_0, k0_pay261 (v.readCov L (Rect.toLoadRect (s := S576x1536) (Rect.unit ![0, 256] S576x256.size inb_S576x1536_S576x256_0_256)))⟩, ⟨Rect.unit ![0, 0, 0] S1x256x576.size inb_S1x1536x576_S1x256x576_0_0_0, k0_pay260 (v.readCov L (Rect.toLoadRect (s := S576x1536) (Rect.unit ![0, 0] S576x256.size inb_S576x1536_S576x256_0_0)))⟩] := by
  rfl

theorem runA_raw0 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).1 = arg11.view.read (Elt F) (arg11.view.writes (Elt F) (harg11.unread x9) (outL (arg14.view.read (Elt F) (arg14.view.writes (Elt F) arg14.view.junk ((pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12]))) (arg13.view.writes (Elt F) arg13.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13]))) (arg14.view.writes (Elt F) arg14.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))))))).2.2 ++ ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))))))) := by
  unfold runA
  dsimp only [runA.sl.v789, runA.sl.v795, runA.sl.v801, runA.sl.r_45, runA.sl.v807, runA.sl.v813, runA.sl.v819]
  rw [runA_key c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_rope c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_deltaL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_ropeL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_diag14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  unfold pieces1 pieces2
  rw [show runA.sl.v178 i = blkW i from rfl, show runA.sl.v179 i = keyW i from rfl, show runA.sl.v788 i = remW i from rfl]
  rw [outL_covA]
  unfold diag12 diag13 runA.sl.H10_1 runA.sl.H11_1 zero12 zero13 runA.sl.v825 runA.sl.v827
  dsimp only [k0_pay253, runA.sl.cst_427]

/-- Result block 0. -/
theorem runA_eq0 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).1 = arg11.view.read (Elt F) (arg11.view.writes (Elt F) (harg11.unread x9) (outL (arg14.view.read (Elt F) (arg14.view.writes (Elt F) (arg14.view.writes (Elt F) arg14.view.junk (diag14 i x0 x1 x3 x4 x5 x6 x7 x8 (arg15.view.read (Elt F) (arg15.view.writes (Elt F) arg15.view.junk (deltaL x1 x2))))) (pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i x6) (diagR i x7) (diagMask i) x0 x1 x3 x4 x5 (arg15.view.read (Elt F) (arg15.view.writes (Elt F) arg15.view.junk (deltaL x1 x2))) (arg16.view.read (Elt F) (arg16.view.writes (Elt F) arg16.view.junk (ropeL x0))) (ropesT (View.ld (arg13.view.read (Elt F) (arg13.view.writes (Elt F) arg13.view.junk [zero13])) (Rect.unit (k0_off4 i) S1x64x256.size (k0_off4_inb i))))) x0 x1 x2 x3 x4 x5 x6 x7 x8 x1 x2 x0 (arg12.view.writes (Elt F) arg12.view.junk (diag12 i x0 x1 x3 x4 x5 x6 x7 (arg15.view.read (Elt F) (arg15.view.writes (Elt F) arg15.view.junk (deltaL x1 x2))) (arg12.view.read (Elt F) (arg12.view.writes (Elt F) arg12.view.junk [zero12])) :: [zero12])) (arg13.view.writes (Elt F) arg13.view.junk (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) arg13.view.junk [zero13])) :: [zero13])) (arg14.view.writes (Elt F) arg14.view.junk (diag14 i x0 x1 x3 x4 x5 x6 x7 x8 (arg15.view.read (Elt F) (arg15.view.writes (Elt F) arg15.view.junk (deltaL x1 x2)))))).2.2)))) := by
  rw [runA_raw0, pieces2_eq]
  simp only [harg2.read_unread x0, harg3.read_unread x1, harg4.read_unread x2, harg5.read_unread x3, harg6.read_unread x4, harg7.read_unread x5, harg8.read_unread x6, harg9.read_unread x7, harg10.read_unread x8, List.nil_append]
  rw [View.writes_append]

theorem runA_raw1 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.1 = arg12.view.read (Elt F) (arg12.view.writes (Elt F) arg12.view.junk ((pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12]))) (arg13.view.writes (Elt F) arg13.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13]))) (arg14.view.writes (Elt F) arg14.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))))))).1 ++ ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])))) := by
  unfold runA
  dsimp only
  rw [runA_key c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_rope c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_deltaL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_ropeL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_diag14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  unfold pieces1 pieces2
  rw [show runA.sl.v178 i = blkW i from rfl, show runA.sl.v179 i = keyW i from rfl, show runA.sl.v788 i = remW i from rfl]
  skip
  unfold diag12 diag13 runA.sl.H10_1 runA.sl.H11_1 zero12 zero13 runA.sl.v825 runA.sl.v827
  dsimp only [k0_pay253, runA.sl.cst_427]

/-- Result block 1. -/
theorem runA_eq1 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.1 = arg12.view.read (Elt F) (arg12.view.writes (Elt F) (arg12.view.writes (Elt F) arg12.view.junk (diag12 i x0 x1 x3 x4 x5 x6 x7 (arg15.view.read (Elt F) (arg15.view.writes (Elt F) arg15.view.junk (deltaL x1 x2))) (arg12.view.read (Elt F) (arg12.view.writes (Elt F) arg12.view.junk [zero12])) :: [zero12])) (pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i x6) (diagR i x7) (diagMask i) x0 x1 x3 x4 x5 (arg15.view.read (Elt F) (arg15.view.writes (Elt F) arg15.view.junk (deltaL x1 x2))) (arg16.view.read (Elt F) (arg16.view.writes (Elt F) arg16.view.junk (ropeL x0))) (ropesT (View.ld (arg13.view.read (Elt F) (arg13.view.writes (Elt F) arg13.view.junk [zero13])) (Rect.unit (k0_off4 i) S1x64x256.size (k0_off4_inb i))))) x0 x1 x2 x3 x4 x5 x6 x7 x8 x1 x2 x0 (arg12.view.writes (Elt F) arg12.view.junk (diag12 i x0 x1 x3 x4 x5 x6 x7 (arg15.view.read (Elt F) (arg15.view.writes (Elt F) arg15.view.junk (deltaL x1 x2))) (arg12.view.read (Elt F) (arg12.view.writes (Elt F) arg12.view.junk [zero12])) :: [zero12])) (arg13.view.writes (Elt F) arg13.view.junk (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) arg13.view.junk [zero13])) :: [zero13])) (arg14.view.writes (Elt F) arg14.view.junk (diag14 i x0 x1 x3 x4 x5 x6 x7 x8 (arg15.view.read (Elt F) (arg15.view.writes (Elt F) arg15.view.junk (deltaL x1 x2)))))).1) := by
  rw [runA_raw1, pieces2_eq]
  simp only [harg2.read_unread x0, harg3.read_unread x1, harg4.read_unread x2, harg5.read_unread x3, harg6.read_unread x4, harg7.read_unread x5, harg8.read_unread x6, harg9.read_unread x7, harg10.read_unread x8, List.nil_append]
  rw [View.writes_append]

theorem runA_raw2 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.2.1 = arg13.view.read (Elt F) (arg13.view.writes (Elt F) arg13.view.junk ((pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12]))) (arg13.view.writes (Elt F) arg13.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13]))) (arg14.view.writes (Elt F) arg14.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))))))).2.1 ++ ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) arg13.view.junk [zero13])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) arg12.view.junk (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) arg12.view.junk [zero12])) :: [zero12])) (arg13.view.writes (Elt F) arg13.view.junk (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) arg13.view.junk [zero13])) :: [zero13])))) := by
  unfold runA
  dsimp only
  rw [runA_key c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_rope c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_deltaL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_ropeL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runA_diag14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  unfold pieces1 pieces2
  rw [show runA.sl.v178 i = blkW i from rfl, show runA.sl.v179 i = keyW i from rfl, show runA.sl.v788 i = remW i from rfl]
  skip
  unfold diag12 diag13 runA.sl.H10_1 runA.sl.H11_1 zero12 zero13 runA.sl.v825 runA.sl.v827
  dsimp only [k0_pay253, runA.sl.cst_427]

/-- Result block 2. -/
theorem runA_eq2 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.2.1 = arg13.view.read (Elt F) (arg13.view.writes (Elt F) (arg13.view.writes (Elt F) arg13.view.junk (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) arg13.view.junk [zero13])) :: [zero13])) (pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i x6) (diagR i x7) (diagMask i) x0 x1 x3 x4 x5 (arg15.view.read (Elt F) (arg15.view.writes (Elt F) arg15.view.junk (deltaL x1 x2))) (arg16.view.read (Elt F) (arg16.view.writes (Elt F) arg16.view.junk (ropeL x0))) (ropesT (View.ld (arg13.view.read (Elt F) (arg13.view.writes (Elt F) arg13.view.junk [zero13])) (Rect.unit (k0_off4 i) S1x64x256.size (k0_off4_inb i))))) x0 x1 x2 x3 x4 x5 x6 x7 x8 x1 x2 x0 (arg12.view.writes (Elt F) arg12.view.junk (diag12 i x0 x1 x3 x4 x5 x6 x7 (arg15.view.read (Elt F) (arg15.view.writes (Elt F) arg15.view.junk (deltaL x1 x2))) (arg12.view.read (Elt F) (arg12.view.writes (Elt F) arg12.view.junk [zero12])) :: [zero12])) (arg13.view.writes (Elt F) arg13.view.junk (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) arg13.view.junk [zero13])) :: [zero13])) (arg14.view.writes (Elt F) arg14.view.junk (diag14 i x0 x1 x3 x4 x5 x6 x7 x8 (arg15.view.read (Elt F) (arg15.view.writes (Elt F) arg15.view.junk (deltaL x1 x2)))))).2.1) := by
  rw [runA_raw2, pieces2_eq]
  simp only [harg2.read_unread x0, harg3.read_unread x1, harg4.read_unread x2, harg5.read_unread x3, harg6.read_unread x4, harg7.read_unread x5, harg8.read_unread x6, harg9.read_unread x7, harg10.read_unread x8, List.nil_append]
  rw [View.writes_append]

end Cert.KernelIdeal.Hand

end
-- ==== Proof.RunB.lean ====
/- The body at any other grid point (the branch not taken: the key gradients are added to). -/
module

public import proofs.«01_k».proof.Proof.RunA

@[expose] public section

-- the shapes are of production extents
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the run's proof term is large
set_option maxHeartbeats 1600000 in
/-- The body at any other grid point (the branch not taken: the key gradients are added to). On whole memrefs holding `x0` … `x14` the body runs
    and leaves the nine inputs as they were and the three results at contents the run finds. -/
def runB (c : Dev nD) (i : grid0.Coords) (arg2 : Memref sig .tc .vmem S1x1536x576 .fp8e4m3) (harg2 : arg2.IsWhole) (arg3 : Memref sig .tc .vmem S1x1536x512 .fp8e5m2) (harg3 : arg3.IsWhole) (arg4 : Memref sig .tc .vmem S1x1536x512 .bf16) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x1x1536 .f32) (harg7 : arg7.IsWhole) (arg8 : Memref sig .tc .vmem S1x4096x512 .bf16) (harg8 : arg8.IsWhole) (arg9 : Memref sig .tc .vmem S1x4096x64 .bf16) (harg9 : arg9.IsWhole) (arg10 : Memref sig .tc .vmem S1x576x4096 .bf16) (harg10 : arg10.IsWhole) (arg11 : Memref sig .tc .vmem S1x1536x576 .bf16) (harg11 : arg11.IsWhole) (arg12 : Memref sig .tc .vmem S1x4096x512 .f32) (harg12 : arg12.IsWhole) (arg13 : Memref sig .tc .vmem S1x64x4096 .f32) (harg13 : arg13.IsWhole) (arg14 : Memref sig .tc .vmem S576x1536 .f32) (harg14 : arg14.IsWhole) (arg15 : Memref sig .tc .vmem S1x1536 .f32) (harg15 : arg15.IsWhole) (arg16 : Memref sig .tc .vmem S64x1536 .bf16) (harg16 : arg16.IsWhole) (hc0 : ¬ cond0_0 i)
    (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    Σ' (y9 : Vec F S1x1536x576 .bf16) (y10 : Vec F S1x4096x512 .f32), { y11 : Vec F S1x64x4096 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mla_bwd_main i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_mla_bwd_main_eq_skeleton]; unfold cc0_mla_bwd_main_skel
    simp only [k0_part44_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; exact rfl
    isplitl [H10]
    · iexists _; isplitr; swap; · iexact H10
      ipureintro; exact rfl
    isplitl [H11]
    · iexists _; isplitr; swap; · iexact H11
      ipureintro; exact rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.KernelIdeal.Hand

end
-- ==== Proof.ValueB.lean ====
/- What the body leaves in the three result blocks at a grid point that is not the first of its batch element. -/
module

public import proofs.«01_k».proof.Proof.Pieces
public import proofs.«01_k».proof.Proof.RunB
import all proofs.«01_k».proof.Proof.RunB
import all proofs.«01_k».proof.Proof.Gen.KernelIdeal.Skeleton

@[expose] public section

set_option maxRecDepth 16384

noncomputable section

namespace Cert.KernelIdeal.Hand

open Idealize.ShloMosaic Idealize.SL.Sem Idealize.ShloMosaic.ValueIdx
open Cert.KernelIdeal Cert.KernelIdeal.Gen Cert.KernelIdeal.Tile

variable {F : FTy → Type} [FloatOps F] [Named F]

theorem runB_deltaL (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runB.sl.H13_6 c arg3 harg3 arg4 harg4 x1 x2
      = deltaL (arg3.view.read (Elt F) (harg3.unread x1)) (arg4.view.read (Elt F) (harg4.unread x2)) := by
  rfl

theorem runB_ropeL (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runB.sl.H14_6 c arg2 harg2 x0
      = ropeL (arg2.view.read (Elt F) (harg2.unread x0)) := by
  rfl

theorem runB_diag14 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runB.sl.H12_6 c i arg2 harg2 arg3 harg3 arg4 harg4 arg5 harg5 arg6 harg6 arg7 harg7 arg8 harg8 arg9 harg9 arg10 harg10 arg15 x0 x1 x2 x3 x4 x5 x6 x7 x8
      = diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))) := by
  rfl

theorem runB_rope (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    runB.sl.r_44 c i arg2 harg2 arg3 harg3 arg4 harg4 arg5 harg5 arg6 harg6 arg7 harg7 arg8 harg8 arg9 harg9 arg13 harg13 arg15 arg16 x0 x1 x2 x3 x4 x5 x6 x7 x11
      = (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) := by
  rfl

theorem runB_key (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
   (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    k0_pay252 (runB.sl.v605 c i arg3 harg3 arg8 harg8 x1 x6) (runB.sl.r_37 c i arg2 harg2 arg3 harg3 arg4 harg4 arg5 harg5 arg6 harg6 arg7 harg7 arg8 harg8 arg9 harg9 arg12 harg12 arg15 x0 x1 x2 x3 x4 x5 x6 x7 x10) (runB.sl.r_39 c arg5 harg5 x3) (runB.sl.r_41 c arg7 harg7 x5) (runB.sl.r_42 c i arg2 harg2 arg5 harg5 arg6 harg6 arg8 harg8 arg9 harg9 x0 x3 x4 x6 x7) (runB.sl.r_43 i) k0_pay246 (runB.sl.v739 c arg3 harg3 arg4 harg4 arg15 x1 x2) (View.readAt (Elt F) arg2.view (Rect.toLoadRect (s := S1x1536x576) (Rect.unit ![0, 1280, 0] S1x256x512.size inb_S1x1536x576_S1x256x512_0_1280_0)) (harg2.unread x0)) (View.readAt (Elt F) arg3.view (Rect.toLoadRect (s := S1x1536x512) (Rect.unit ![0, 1280, 0] S1x256x512.size inb_S1x1536x512_S1x256x512_0_1280_0)) (harg3.unread x1))
      = shapeCast S1x256x512 (keyBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (keyGrads (View.ld (arg12.view.read (Elt F) (arg12.view.writes (Elt F) (harg12.unread x10) [])) (Rect.unit (k0_off1 i) S1x256x512.size (k0_off1_inb i))))) shapeCasts_S256x512_S1x256x512 := by
  rfl

/-- The six pieces of the query gradients, as loads of the transposed accumulator. -/
theorem outL_covB (v : View sig .tc .vmem S576x1536 .f32) (L : List (View.Piece (Elt F) S576x1536 .f32)) :
    outL (v.read (Elt F) (v.writes (Elt F) v.junk L))
      = [⟨Rect.unit ![0, 1280, 0] S1x256x576.size inb_S1x1536x576_S1x256x576_0_1280_0, k0_pay266 (v.readCov L (Rect.toLoadRect (s := S576x1536) (Rect.unit ![0, 1280] S576x256.size inb_S576x1536_S576x256_0_1280)))⟩, ⟨Rect.unit ![0, 1024, 0] S1x256x576.size inb_S1x1536x576_S1x256x576_0_1024_0, k0_pay265 (v.readCov L (Rect.toLoadRect (s := S576x1536) (Rect.unit ![0, 1024] S576x256.size inb_S576x1536_S576x256_0_1024)))⟩, ⟨Rect.unit ![0, 768, 0] S1x256x576.size inb_S1x1536x576_S1x256x576_0_768_0, k0_pay264 (v.readCov L (Rect.toLoadRect (s := S576x1536) (Rect.unit ![0, 768] S576x256.size inb_S576x1536_S576x256_0_768)))⟩, ⟨Rect.unit ![0, 512, 0] S1x256x576.size inb_S1x1536x576_S1x256x576_0_512_0, k0_pay263 (k0_pay262 (v.readCov L (Rect.toLoadRect (s := S576x1536) (Rect.unit ![0, 512] S576x256.size inb_S576x1536_S576x256_0_512))))⟩, ⟨Rect.unit ![0, 256, 0] S1x256x576.size inb_S1x1536x576_S1x256x576_0_256_0, k0_pay261 (v.readCov L (Rect.toLoadRect (s := S576x1536) (Rect.unit ![0, 256] S576x256.size inb_S576x1536_S576x256_0_256)))⟩, ⟨Rect.unit ![0, 0, 0] S1x256x576.size inb_S1x1536x576_S1x256x576_0_0_0, k0_pay260 (v.readCov L (Rect.toLoadRect (s := S576x1536) (Rect.unit ![0, 0] S576x256.size inb_S576x1536_S576x256_0_0)))⟩] := by
  rfl

theorem runB_raw0 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).1 = arg11.view.read (Elt F) (arg11.view.writes (Elt F) (harg11.unread x9) (outL (arg14.view.read (Elt F) (arg14.view.writes (Elt F) arg14.view.junk ((pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: []))) (arg13.view.writes (Elt F) (harg13.unread x11) ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: []))) (arg14.view.writes (Elt F) arg14.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))))))).2.2 ++ ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))))))) := by
  unfold runB
  dsimp only [runB.sl.v789, runB.sl.v795, runB.sl.v801, runB.sl.r_45, runB.sl.v807, runB.sl.v813, runB.sl.v819]
  rw [runB_key c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_rope c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_deltaL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_ropeL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_diag14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  unfold pieces1 pieces2
  rw [show runB.sl.v178 i = blkW i from rfl, show runB.sl.v179 i = keyW i from rfl, show runB.sl.v788 i = remW i from rfl]
  rw [outL_covB]
  unfold diag12 diag13
  dsimp only [k0_pay253]

/-- Result block 0. -/
theorem runB_eq0 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).1 = arg11.view.read (Elt F) (arg11.view.writes (Elt F) (harg11.unread x9) (outL (arg14.view.read (Elt F) (arg14.view.writes (Elt F) (arg14.view.writes (Elt F) arg14.view.junk (diag14 i x0 x1 x3 x4 x5 x6 x7 x8 (arg15.view.read (Elt F) (arg15.view.writes (Elt F) arg15.view.junk (deltaL x1 x2))))) (pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i x6) (diagR i x7) (diagMask i) x0 x1 x3 x4 x5 (arg15.view.read (Elt F) (arg15.view.writes (Elt F) arg15.view.junk (deltaL x1 x2))) (arg16.view.read (Elt F) (arg16.view.writes (Elt F) arg16.view.junk (ropeL x0))) (ropesT (View.ld (arg13.view.read (Elt F) (arg13.view.writes (Elt F) (harg13.unread x11) [])) (Rect.unit (k0_off4 i) S1x64x256.size (k0_off4_inb i))))) x0 x1 x2 x3 x4 x5 x6 x7 x8 x1 x2 x0 (arg12.view.writes (Elt F) (harg12.unread x10) (diag12 i x0 x1 x3 x4 x5 x6 x7 (arg15.view.read (Elt F) (arg15.view.writes (Elt F) arg15.view.junk (deltaL x1 x2))) (arg12.view.read (Elt F) (arg12.view.writes (Elt F) (harg12.unread x10) [])) :: [])) (arg13.view.writes (Elt F) (harg13.unread x11) (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) (harg13.unread x11) [])) :: [])) (arg14.view.writes (Elt F) arg14.view.junk (diag14 i x0 x1 x3 x4 x5 x6 x7 x8 (arg15.view.read (Elt F) (arg15.view.writes (Elt F) arg15.view.junk (deltaL x1 x2)))))).2.2)))) := by
  rw [runB_raw0, pieces2_eq]
  simp only [harg2.read_unread x0, harg3.read_unread x1, harg4.read_unread x2, harg5.read_unread x3, harg6.read_unread x4, harg7.read_unread x5, harg8.read_unread x6, harg9.read_unread x7, harg10.read_unread x8, List.nil_append]
  rw [View.writes_append]

theorem runB_raw1 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.1 = arg12.view.read (Elt F) (arg12.view.writes (Elt F) (harg12.unread x10) ((pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: []))) (arg13.view.writes (Elt F) (harg13.unread x11) ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: []))) (arg14.view.writes (Elt F) arg14.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))))))).1 ++ ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])))) := by
  unfold runB
  dsimp only
  rw [runB_key c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_rope c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_deltaL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_ropeL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_diag14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  unfold pieces1 pieces2
  rw [show runB.sl.v178 i = blkW i from rfl, show runB.sl.v179 i = keyW i from rfl, show runB.sl.v788 i = remW i from rfl]
  skip
  unfold diag12 diag13
  dsimp only [k0_pay253]

/-- Result block 1. -/
theorem runB_eq1 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.1 = arg12.view.read (Elt F) (arg12.view.writes (Elt F) (arg12.view.writes (Elt F) (harg12.unread x10) (diag12 i x0 x1 x3 x4 x5 x6 x7 (arg15.view.read (Elt F) (arg15.view.writes (Elt F) arg15.view.junk (deltaL x1 x2))) (arg12.view.read (Elt F) (arg12.view.writes (Elt F) (harg12.unread x10) [])) :: [])) (pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i x6) (diagR i x7) (diagMask i) x0 x1 x3 x4 x5 (arg15.view.read (Elt F) (arg15.view.writes (Elt F) arg15.view.junk (deltaL x1 x2))) (arg16.view.read (Elt F) (arg16.view.writes (Elt F) arg16.view.junk (ropeL x0))) (ropesT (View.ld (arg13.view.read (Elt F) (arg13.view.writes (Elt F) (harg13.unread x11) [])) (Rect.unit (k0_off4 i) S1x64x256.size (k0_off4_inb i))))) x0 x1 x2 x3 x4 x5 x6 x7 x8 x1 x2 x0 (arg12.view.writes (Elt F) (harg12.unread x10) (diag12 i x0 x1 x3 x4 x5 x6 x7 (arg15.view.read (Elt F) (arg15.view.writes (Elt F) arg15.view.junk (deltaL x1 x2))) (arg12.view.read (Elt F) (arg12.view.writes (Elt F) (harg12.unread x10) [])) :: [])) (arg13.view.writes (Elt F) (harg13.unread x11) (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) (harg13.unread x11) [])) :: [])) (arg14.view.writes (Elt F) arg14.view.junk (diag14 i x0 x1 x3 x4 x5 x6 x7 x8 (arg15.view.read (Elt F) (arg15.view.writes (Elt F) arg15.view.junk (deltaL x1 x2)))))).1) := by
  rw [runB_raw1, pieces2_eq]
  simp only [harg2.read_unread x0, harg3.read_unread x1, harg4.read_unread x2, harg5.read_unread x3, harg6.read_unread x4, harg7.read_unread x5, harg8.read_unread x6, harg9.read_unread x7, harg10.read_unread x8, List.nil_append]
  rw [View.writes_append]

theorem runB_raw2 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.2.1 = arg13.view.read (Elt F) (arg13.view.writes (Elt F) (harg13.unread x11) ((pieces2 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).1 ++ (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: []))) (arg13.view.writes (Elt F) (harg13.unread x11) ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: []))) (arg14.view.writes (Elt F) arg14.view.junk ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.2 ++ (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2))))))))).2.1 ++ ((pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i (arg8.view.read (Elt F) (harg8.unread x6))) (diagR i (arg9.view.read (Elt F) (harg9.unread x7))) (diagMask i) (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (ropesT (View.ld (arg13.view.read (Elt F) (arg13.view.writes (Elt F) (harg13.unread x11) [])) (Rect.unit (k0_off4 i) S1x64x256.size (k0_off4_inb i))))) x0 x1 x2 x3 x4 x5 x6 x7 x8 (arg3.view.read (Elt F) (harg3.unread x1)) (arg4.view.read (Elt F) (harg4.unread x2)) (arg2.view.read (Elt F) (harg2.unread x0)) (arg12.view.writes (Elt F) (harg12.unread x10) (diag12 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg12.view.read (Elt F) (arg12.view.writes (Elt F) (harg12.unread x10) [])) :: [])) (arg13.view.writes (Elt F) (harg13.unread x11) (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])) (arg14.view.writes (Elt F) arg14.view.junk (diag14 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg15.view.read (Elt F) (arg15.view.writes (Elt F) arg15.view.junk (deltaL (arg3.view.read (Elt F) (harg3.unread x1)) (arg4.view.read (Elt F) (harg4.unread x2)))))))).2.1 ++ (diag13 i (arg2.view.read (Elt F) (harg2.unread x0)) (arg3.view.read (Elt F) (harg3.unread x1)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg15.view.read (Elt F) (arg15.view.writes (Elt F) arg15.view.junk (deltaL (arg3.view.read (Elt F) (harg3.unread x1)) (arg4.view.read (Elt F) (harg4.unread x2))))) (arg16.view.read (Elt F) (arg16.view.writes (Elt F) arg16.view.junk (ropeL (arg2.view.read (Elt F) (harg2.unread x0))))) (arg13.view.read (Elt F) (arg13.view.writes (Elt F) (harg13.unread x11) [])) :: [])))) := by
  unfold runB
  dsimp only
  rw [runB_key c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_rope c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_deltaL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_ropeL c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, runB_diag14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  unfold pieces1 pieces2
  rw [show runB.sl.v178 i = blkW i from rfl, show runB.sl.v179 i = keyW i from rfl, show runB.sl.v788 i = remW i from rfl]
  skip
  unfold diag12 diag13
  dsimp only [k0_pay253]

/-- Result block 2. -/
theorem runB_eq2 (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (x0 : Vec F S1x1536x576 .fp8e4m3) (x1 : Vec F S1x1536x512 .fp8e5m2) (x2 : Vec F S1x1536x512 .bf16) (x3 : Vec F S1x1x1536 .f32) (x4 : Vec F S1x1x1536 .f32) (x5 : Vec F S1x1x1536 .f32) (x6 : Vec F S1x4096x512 .bf16) (x7 : Vec F S1x4096x64 .bf16) (x8 : Vec F S1x576x4096 .bf16) (x9 : Vec F S1x1536x576 .bf16) (x10 : Vec F S1x4096x512 .f32) (x11 : Vec F S1x64x4096 .f32) (x12 : Vec F S576x1536 .f32) (x13 : Vec F S1x1536 .f32) (x14 : Vec F S64x1536 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 x14).2.2.1 = arg13.view.read (Elt F) (arg13.view.writes (Elt F) (arg13.view.writes (Elt F) (harg13.unread x11) (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) (harg13.unread x11) [])) :: [])) (pieces1 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i x6) (diagR i x7) (diagMask i) x0 x1 x3 x4 x5 (arg15.view.read (Elt F) (arg15.view.writes (Elt F) arg15.view.junk (deltaL x1 x2))) (arg16.view.read (Elt F) (arg16.view.writes (Elt F) arg16.view.junk (ropeL x0))) (ropesT (View.ld (arg13.view.read (Elt F) (arg13.view.writes (Elt F) (harg13.unread x11) [])) (Rect.unit (k0_off4 i) S1x64x256.size (k0_off4_inb i))))) x0 x1 x2 x3 x4 x5 x6 x7 x8 x1 x2 x0 (arg12.view.writes (Elt F) (harg12.unread x10) (diag12 i x0 x1 x3 x4 x5 x6 x7 (arg15.view.read (Elt F) (arg15.view.writes (Elt F) arg15.view.junk (deltaL x1 x2))) (arg12.view.read (Elt F) (arg12.view.writes (Elt F) (harg12.unread x10) [])) :: [])) (arg13.view.writes (Elt F) (harg13.unread x11) (diag13 i x0 x1 x3 x4 x5 x6 x7 (arg15.view.read (Elt F) (arg15.view.writes (Elt F) arg15.view.junk (deltaL x1 x2))) (arg16.view.read (Elt F) (arg16.view.writes (Elt F) arg16.view.junk (ropeL x0))) (arg13.view.read (Elt F) (arg13.view.writes (Elt F) (harg13.unread x11) [])) :: [])) (arg14.view.writes (Elt F) arg14.view.junk (diag14 i x0 x1 x3 x4 x5 x6 x7 x8 (arg15.view.read (Elt F) (arg15.view.writes (Elt F) arg15.view.junk (deltaL x1 x2)))))).2.1) := by
  rw [runB_raw2, pieces2_eq]
  simp only [harg2.read_unread x0, harg3.read_unread x1, harg4.read_unread x2, harg5.read_unread x3, harg6.read_unread x4, harg7.read_unread x5, harg8.read_unread x6, harg9.read_unread x7, harg10.read_unread x8, List.nil_append]
  rw [View.writes_append]

end Cert.KernelIdeal.Hand

end
-- ==== Proof.Spec.lean ====
/- What a grid point leaves in the three result blocks: the gradients of its queries, and the gradients of the keys and of the
   rotary keys with the rows of the grid point added. -/
module

public import proofs.«01_k».proof.Proof.Loop
public import proofs.«01_k».proof.Proof.ValueA
public import proofs.«01_k».proof.Proof.ValueB

@[expose] public section

set_option maxRecDepth 16384

noncomputable section

namespace Cert.KernelIdeal.Hand

open Idealize.ShloMosaic Idealize.SL.Sem Idealize.ShloMosaic.ValueIdx
open Cert.KernelIdeal Cert.KernelIdeal.Gen Cert.KernelIdeal.Tile
open scoped BigOperators

/-! ## The query gradients stored at the end -/

theorem pay266_apply (a : Vec Ideal S576x256 .f32) (t : Fin 256) (d : Fin 576) : k0_pay266 a (ix3 0 t d) = a (ix2 d t) := by
  unfold k0_pay266
  refine (shapeCast_ab_1ab_apply _ _ 0 t d).trans ?_
  refine (transpose_ix2_apply _ _ t d).trans ?_
  rw [truncf_apply]

/-- Six pieces along the middle axis of a rank-3 buffer, read at a tile. -/
theorem read_six_mid {sig : RefSig} {κ : Kind} {sp : Space} {W : ℕ} {e : EltTy} {Val : EltTy → Type}
    (v : View sig κ sp (⟨3, ![1, 1536, W]⟩ : Shape) e) (f : v.ty.Contents Val)
    (w0 w1 w2 w3 w4 w5 : (⟨3, ![1, 256, W]⟩ : Shape).Idx → Val e) (h5 h4 h3 h2 h1 h0)
    (n : Fin 6) (t : Fin 256) (d : Fin W) :
    v.read Val (v.writes Val f
      [⟨Rect.unit ![0, 1280, 0] (⟨3, ![1, 256, W]⟩ : Shape).size h5, w5⟩, ⟨Rect.unit ![0, 1024, 0] (⟨3, ![1, 256, W]⟩ : Shape).size h4, w4⟩,
       ⟨Rect.unit ![0, 768, 0] (⟨3, ![1, 256, W]⟩ : Shape).size h3, w3⟩, ⟨Rect.unit ![0, 512, 0] (⟨3, ![1, 256, W]⟩ : Shape).size h2, w2⟩,
       ⟨Rect.unit ![0, 256, 0] (⟨3, ![1, 256, W]⟩ : Shape).size h1, w1⟩, ⟨Rect.unit ![0, 0, 0] (⟨3, ![1, 256, W]⟩ : Shape).size h0, w0⟩])
      (ix3 0 (row n t) d) = (![w0, w1, w2, w3, w4, w5] n) (ix3 0 t d) := by
  have hit : ∀ (o : ℕ) (h : ∀ a, (![0, o, 0] : Fin 3 → ℕ) a + (⟨3, ![1, 256, W]⟩ : Shape).size a ≤ (⟨3, ![1, 1536, W]⟩ : Shape).size a) (w L),
      o = 256 * n.val → v.read Val (v.writes Val f (⟨Rect.unit ![0, o, 0] (⟨3, ![1, 256, W]⟩ : Shape).size h, w⟩ :: L)) (ix3 0 (row n t) d) = w (ix3 0 t d) :=
    fun o h w L ho => View.read_writes_cons_unit_of_mem v f h w L _ (ix3 0 t d) rfl (fun ax => by
      match ax with
      | ⟨0, _⟩ => rfl
      | ⟨1, _⟩ => show 256 * n.val + t.val = o + t.val; rw [ho]
      | ⟨2, _⟩ => exact (Nat.zero_add _).symm)
  have miss : ∀ (o : ℕ) (h : ∀ a, (![0, o, 0] : Fin 3 → ℕ) a + (⟨3, ![1, 256, W]⟩ : Shape).size a ≤ (⟨3, ![1, 1536, W]⟩ : Shape).size a) (w L),
      256 * n.val + 256 ≤ o → v.read Val (v.writes Val f (⟨Rect.unit ![0, o, 0] (⟨3, ![1, 256, W]⟩ : Shape).size h, w⟩ :: L)) (ix3 0 (row n t) d)
        = v.read Val (v.writes Val f L) (ix3 0 (row n t) d) :=
    fun o h w L ho => View.read_writes_cons_unit_of_not_mem v f h w L _ rfl (1 : Fin 3) (Or.inl (by
      show 256 * n.val + t.val < o
      have := t.isLt
      omega))
  match n, hit, miss with
  | ⟨0, _⟩, hit, miss =>
    exact (miss _ h5 _ _ (of_decide_eq_true rfl)).trans ((miss _ h4 _ _ (of_decide_eq_true rfl)).trans ((miss _ h3 _ _ (of_decide_eq_true rfl)).trans
      ((miss _ h2 _ _ (of_decide_eq_true rfl)).trans ((miss _ h1 _ _ (of_decide_eq_true rfl)).trans (hit _ h0 _ _ rfl)))))
  | ⟨1, _⟩, hit, miss =>
    exact (miss _ h5 _ _ (of_decide_eq_true rfl)).trans ((miss _ h4 _ _ (of_decide_eq_true rfl)).trans ((miss _ h3 _ _ (of_decide_eq_true rfl)).trans
      ((miss _ h2 _ _ (of_decide_eq_true rfl)).trans (hit _ h1 _ _ rfl))))
  | ⟨2, _⟩, hit, miss =>
    exact (miss _ h5 _ _ (of_decide_eq_true rfl)).trans ((miss _ h4 _ _ (of_decide_eq_true rfl)).trans ((miss _ h3 _ _ (of_decide_eq_true rfl)).trans (hit _ h2 _ _ rfl)))
  | ⟨3, _⟩, hit, miss =>
    exact (miss _ h5 _ _ (of_decide_eq_true rfl)).trans ((miss _ h4 _ _ (of_decide_eq_true rfl)).trans (hit _ h3 _ _ rfl))
  | ⟨4, _⟩, hit, miss => exact (miss _ h5 _ _ (of_decide_eq_true rfl)).trans (hit _ h4 _ _ rfl)
  | ⟨5, _⟩, hit, _ => exact hit _ h5 _ _ rfl

theorem outL_read (v : View sig .tc .vmem S1x1536x576 .bf16) (f : v.ty.Contents (Elt Ideal)) (a : Vec Ideal S576x1536 .f32)
    (r : Fin 1536) (d : Fin 576) :
    v.read (Elt Ideal) (v.writes (Elt Ideal) f (outL a)) (ix3 0 r d) = a (ix2 d r) := by
  obtain ⟨n, t, rfl⟩ := row_surj r
  refine (read_six_mid v f _ _ _ _ _ _ _ _ _ _ _ _ n t d).trans ?_
  have h : ∀ m : Fin 6, k0_pay266 (aT a m) (ix3 0 t d) = a (ix2 d (row m t)) := fun m => by rw [pay266_apply, aT_apply]
  fin_cases n
  · exact h 0
  · exact h 1
  · exact h 2
  · exact h 3
  · exact h 4
  · exact h 5

/-- Two pieces stored one after the other: the older one first. -/
theorem writes_two {s : Shape} {e : EltTy} (v : View sig .tc .vmem s e) (f : v.ty.Contents (Elt Ideal)) (p q : View.Piece (Elt Ideal) s e) :
    v.writes (Elt Ideal) f [p, q] = v.writes (Elt Ideal) (v.writes (Elt Ideal) f [q]) [p] := rfl

/-- Zero over a whole buffer. -/
theorem zero12_read (v : View sig .tc .vmem S1x4096x512 .f32) (f : v.ty.Contents (Elt Ideal)) (κ : Fin 4096) (d : Fin 512) :
    v.read (Elt Ideal) (v.writes (Elt Ideal) f [zero12]) (ix3 0 κ d) = 0 :=
  (View.read_writes_cons_unit_of_mem v f _ _ [] _ (ix3 0 κ d) rfl (fun a => by
    match a with
    | ⟨0, _⟩ => rfl
    | ⟨1, _⟩ => exact (Nat.zero_add _).symm
    | ⟨2, _⟩ => exact (Nat.zero_add _).symm)).trans Ideal.ofBits_zero_f32
theorem zero13_read (v : View sig .tc .vmem S1x64x4096 .f32) (f : v.ty.Contents (Elt Ideal)) (e : Fin 64) (κ : Fin 4096) :
    v.read (Elt Ideal) (v.writes (Elt Ideal) f [zero13]) (ix3 0 e κ) = 0 :=
  (View.read_writes_cons_unit_of_mem v f _ _ [] _ (ix3 0 e κ) rfl (fun a => by
    match a with
    | ⟨0, _⟩ => rfl
    | ⟨1, _⟩ => exact (Nat.zero_add _).symm
    | ⟨2, _⟩ => exact (Nat.zero_add _).symm)).trans Ideal.ofBits_zero_f32

/-! ## A grid point -/

/-- The diagonal block of keys. -/
def diagJ (i : grid0.Coords) : Fin 16 := ⟨(32 * (i 1).val) / 256, by have : (i 1).val < 128 := (i 1).isLt; omega⟩

section Point
variable (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (v767 : FVec Ideal S64x256 .f32) (f12 : BufTy.Contents (Elt Ideal) arg12.view.ty) (f13 : BufTy.Contents (Elt Ideal) arg13.view.ty) (f14 : BufTy.Contents (Elt Ideal) arg14.view.ty)
  (hm : P.m = (i 1).val)

include hm in
/-- The diagonal block, as the kernel has it. -/
theorem diag_holds (xd : Vec Ideal S1x1536 .f32) (xq : Vec Ideal S64x1536 .bf16) (hd : ∀ r, xd (ix2 0 r) = delta P.x1 P.x2 r)
    (hq : ∀ e r, xq (ix2 e r) = P.x0 (ix3 0 r (hi e))) : Holds P (key (diagJ i)) (diagC i P.x6) (diagR i P.x7) (diagMask i) xd xq where
  hc := fun k d => by
    unfold diagC
    rw [keys_apply]
    exact ld_mid _ (k0_off1 i) _ (diagJ i) (k0_off1_eq i) k d
  hr := fun k e => by
    unfold diagR
    rw [ropes_apply]
    exact ld_mid _ (k0_off2 i) _ (diagJ i) (k0_off2_eq i) k e
  hm := fun n p k t => by rw [diagMask_apply, hm]; rfl
  hd := hd
  hq := hq

include hm in
theorem diag_keys (j : Fin 16) (k : Fin 256) (d : Fin 512) :
    arg12.view.read (Elt Ideal) (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (ix3 0 (key j k) d)
      = arg12.view.read (Elt Ideal) f12 (ix3 0 (key j k) d) + if j = diagJ i then P.keyAdd (key j k) d else 0 := by
  unfold diag12
  refine (st_mid _ _ (k0_off1 i) _ _ _ _ (diagJ i) (k0_off1_eq i) j k d).trans ?_
  by_cases h : j = diagJ i
  · subst h
    rw [if_pos rfl, if_pos rfl, keyBlock_apply (diag_holds P i hm _ (fun y => P.x0 (ix3 0 (y 1) (hi (y 0)))) (fun r => deltaL_read _ _ _ _ r) (fun _ _ => rfl)), keyGrads_apply]
    exact congrArg (· + _) (ld_mid _ (k0_off1 i) _ (diagJ i) (k0_off1_eq i) k d)
  · rw [if_neg h, if_neg h, add_zero]
    rfl

include hm in
theorem diag_ropes (j : Fin 16) (k : Fin 256) (e : Fin 64) :
    arg13.view.read (Elt Ideal) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (ix3 0 e (key j k))
      = arg13.view.read (Elt Ideal) f13 (ix3 0 e (key j k)) + if j = diagJ i then P.ropeAdd (key j k) e else 0 := by
  unfold diag13
  refine (st_last _ _ (k0_off4 i) _ _ _ _ (diagJ i) (k0_off4_eq i) j k e).trans ?_
  by_cases h : j = diagJ i
  · subst h
    rw [if_pos rfl, if_pos rfl, ropeBlock_apply (diag_holds P i hm _ _ (fun r => deltaL_read _ _ _ _ r) (fun e r => ropeL_read _ _ _ e r)), ropesT_apply]
    exact congrArg (· + _) (ld_last _ (k0_off4 i) _ (diagJ i) (k0_off4_eq i) e k)
  · rw [if_neg h, if_neg h, add_zero]
    rfl

include hm in
theorem diag_queries (r : Fin 1536) (d : Fin 576) :
    arg14.view.read (Elt Ideal) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2))))) (ix2 d r) = ∑ k : Fin 256, P.queryTerm (key (diagJ i) k) r d := by
  obtain ⟨n, t, rfl⟩ := row_surj r
  unfold diag14
  refine (read_six _ _ _ _ _ _ _ _ _ _ _ _ _ _ d n t).trans ?_
  have ht : ∀ d k, diagT i P.x8 (ix2 d k) = P.x8 (ix3 0 d (key (diagJ i) k)) := fun d k => by
    unfold diagT
    rw [keysT_apply]
    exact ld_last _ (k0_off3 i) _ (diagJ i) (k0_off3_eq i) d k
  have h : ∀ n : Fin 6, shapeCast S576x256 (queryT (diagC i P.x6) (diagR i P.x7) (diagT i P.x8) (diagMask i) P.x0 P.x1 P.x3 P.x4 P.x5 (arg15.view.read (Elt Ideal) (arg15.view.writes (Elt Ideal) arg15.view.junk (deltaL P.x1 P.x2))) n) shapeCasts_S576x256_S576x256 (ix2 d t)
      = ∑ k : Fin 256, P.queryTerm (key (diagJ i) k) (row n t) d := fun n => by
    rw [shapeCast_self, queryT_apply (diag_holds P i hm _ (fun y => P.x0 (ix3 0 (y 1) (hi (y 0)))) (fun r => deltaL_read _ _ _ _ r) (fun _ _ => rfl)) ht]
  fin_cases n
  · exact h 0
  · exact h 1
  · exact h 2
  · exact h 3
  · exact h 4
  · exact h 5

include hm in
/-- The loop after the diagonal block. -/
theorem point_after :
    After P ((32 * (i 1).val) / 256) (arg12.view.read (Elt Ideal) (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))])) (arg12.view.read (Elt Ideal) (arg12.view.writes (Elt Ideal) (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (pieces1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 P.x0 P.x1 P.x2 P.x3 P.x4 P.x5 P.x6 P.x7 P.x8 P.x1 P.x2 P.x0 (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2)))))).1))
      (arg13.view.read (Elt Ideal) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))])) (arg13.view.read (Elt Ideal) (arg13.view.writes (Elt Ideal) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (pieces1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 P.x0 P.x1 P.x2 P.x3 P.x4 P.x5 P.x6 P.x7 P.x8 P.x1 P.x2 P.x0 (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2)))))).2.1))
      (arg14.view.read (Elt Ideal) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2)))))) (arg14.view.read (Elt Ideal) (arg14.view.writes (Elt Ideal) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2))))) (pieces1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 P.x0 P.x1 P.x2 P.x3 P.x4 P.x5 P.x6 P.x7 P.x8 P.x1 P.x2 P.x0 (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2)))))).2.2)) := by
  rw [← trips1 i]
  unfold pieces1
  exact loop_after P Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ hm (harg2.read_unread _) (harg3.read_unread _) (harg5.read_unread _) (harg6.read_unread _)
    (harg7.read_unread _) (harg8.read_unread _) (harg9.read_unread _) (harg10.read_unread _) (fun r => deltaL_read _ _ _ _ r) (fun e r => ropeL_read _ _ _ e r) _ le_rfl

include hm in
theorem point_keys (κ : Fin 4096) (d : Fin 512) :
    arg12.view.read (Elt Ideal) (arg12.view.writes (Elt Ideal) (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (pieces1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 P.x0 P.x1 P.x2 P.x3 P.x4 P.x5 P.x6 P.x7 P.x8 P.x1 P.x2 P.x0 (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2)))))).1) (ix3 0 κ d) = arg12.view.read (Elt Ideal) f12 (ix3 0 κ d) + P.keyAdd κ d := by
  obtain ⟨j, k, rfl⟩ := key_surj κ
  rw [(point_after P c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 f12 f13 f14 hm).k, diag_keys P i arg12 arg15 f12 hm, add_assoc]
  refine congrArg (_ + ·) ?_
  have hk := k.isLt
  have hv : (key j k).val = 256 * j.val + k.val := rfl
  have hJ : (diagJ i).val = (32 * (i 1).val) / 256 := rfl
  by_cases h : j = diagJ i
  · rw [if_pos h, if_neg (by rw [hv, h, hJ]; omega), add_zero]
  · have hne : j.val ≠ (diagJ i).val := fun hh => h (Fin.ext hh)
    rw [if_neg h, zero_add]
    by_cases h2 : j.val < (diagJ i).val
    · rw [if_pos (by omega)]
    · rw [if_neg (by omega), P.keyAdd_zero _ d (by rw [hm]; omega)]

include hm in
theorem point_ropes (e : Fin 64) (κ : Fin 4096) :
    arg13.view.read (Elt Ideal) (arg13.view.writes (Elt Ideal) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (pieces1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 P.x0 P.x1 P.x2 P.x3 P.x4 P.x5 P.x6 P.x7 P.x8 P.x1 P.x2 P.x0 (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2)))))).2.1) (ix3 0 e κ) = arg13.view.read (Elt Ideal) f13 (ix3 0 e κ) + P.ropeAdd κ e := by
  obtain ⟨j, k, rfl⟩ := key_surj κ
  rw [(point_after P c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 f12 f13 f14 hm).r, diag_ropes P i arg13 arg15 arg16 f13 hm, add_assoc]
  refine congrArg (_ + ·) ?_
  have hk := k.isLt
  have hv : (key j k).val = 256 * j.val + k.val := rfl
  have hJ : (diagJ i).val = (32 * (i 1).val) / 256 := rfl
  by_cases h : j = diagJ i
  · rw [if_pos h, if_neg (by rw [hv, h, hJ]; omega), add_zero]
  · have hne : j.val ≠ (diagJ i).val := fun hh => h (Fin.ext hh)
    rw [if_neg h, zero_add]
    by_cases h2 : j.val < (diagJ i).val
    · rw [if_pos (by omega)]
    · rw [if_neg (by omega), P.ropeAdd_zero _ e (by rw [hm]; omega)]

include hm in
theorem point_queries (g : BufTy.Contents (Elt Ideal) arg11.view.ty) (r : Fin 1536) (d : Fin 576) :
    arg11.view.read (Elt Ideal) (arg11.view.writes (Elt Ideal) g (outL (arg14.view.read (Elt Ideal) (arg14.view.writes (Elt Ideal) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2))))) (pieces1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 P.x0 P.x1 P.x2 P.x3 P.x4 P.x5 P.x6 P.x7 P.x8 P.x1 P.x2 P.x0 (arg12.view.writes (Elt Ideal) f12 [(diag12 i P.x0 P.x1 P.x3 P.x4 P.x5 P.x6 P.x7 (arg15.view.read (Elt Ideal) (arg15.view.writes (Elt Ideal) arg15.view.junk (deltaL P.x1 P.x2))) (arg12.view.read (Elt Ideal) f12))]) (arg13.view.writes (Elt Ideal) f13 [(diag13 i P.x0 P.x1 P.x3 P.x4 P.x5 P.x6 P.x7 (arg15.view.read (Elt Ideal) (arg15.view.writes (Elt Ideal) arg15.view.junk (deltaL P.x1 P.x2))) (arg16.view.read (Elt Ideal) (arg16.view.writes (Elt Ideal) arg16.view.junk (ropeL P.x0))) (arg13.view.read (Elt Ideal) f13))]) (arg14.view.writes (Elt Ideal) f14 (diag14 i P.x0 P.x1 P.x3 P.x4 P.x5 P.x6 P.x7 P.x8 (arg15.view.read (Elt Ideal) (arg15.view.writes (Elt Ideal) arg15.view.junk (deltaL P.x1 P.x2)))))).2.2)))) (ix3 0 r d) = P.query r d := by
  rw [outL_read, (point_after P c i arg2 harg2 arg3 harg3 arg4 harg4 arg5 harg5 arg6 harg6 arg7 harg7 arg8 harg8 arg9 harg9 arg10 harg10 arg11 harg11 arg12 harg12 arg13 harg13 arg14 harg14 arg15 harg15 arg16 harg16 v767 f12 f13 f14 hm).q, diag_queries P i arg14 arg15 f14 hm]
  unfold Pt.query queryUpTo
  rw [sum_keys, ← Finset.sum_ite_eq' Finset.univ (diagJ i) (fun j => ∑ k : Fin 256, P.queryTerm (key j k) r d) |>.trans (if_pos (Finset.mem_univ _)),
    ← Finset.sum_add_distrib]
  refine Finset.sum_congr rfl fun j _ => ?_
  have hJ : (diagJ i).val = (32 * (i 1).val) / 256 := rfl
  by_cases h : j = diagJ i
  · rw [if_pos h, if_neg (by rw [h, hJ]; omega), add_zero]
  · have hne : j.val ≠ (diagJ i).val := fun hh => h (Fin.ext hh)
    rw [if_neg h, zero_add]
    by_cases h2 : j.val < (diagJ i).val
    · rw [if_pos (by omega)]
    · rw [if_neg (by omega)]
      refine (Finset.sum_eq_zero fun k _ => P.queryTerm_zero _ r d ?_).symm
      have hv : (key j k).val = 256 * j.val + k.val := rfl
      rw [hm]
      omega

end Point

/-! ## The first grid point of a batch element -/

theorem specA_queries (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (r : Fin 1536) (d : Fin 576) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).1 (ix3 0 r d) = P.query r d := by
  rw [runA_eq0]
  exact point_queries P c i arg2 harg2 arg3 harg3 arg4 harg4 arg5 harg5 arg6 harg6 arg7 harg7 arg8 harg8 arg9 harg9 arg10 harg10 arg11 harg11 arg12 harg12 arg13 harg13 arg14 harg14 arg15 harg15 arg16 harg16 _ (arg12.view.writes (Elt Ideal) arg12.view.junk [zero12]) (arg13.view.writes (Elt Ideal) arg13.view.junk [zero13]) _ hm _ r d

theorem specA_keys (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (κ : Fin 4096) (d : Fin 512) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.1 (ix3 0 κ d) = P.keyAdd κ d := by
  rw [runA_eq1]
  exact (point_keys P c i arg2 harg2 arg3 harg3 arg4 harg4 arg5 harg5 arg6 harg6 arg7 harg7 arg8 harg8 arg9 harg9 arg10 harg10 arg11 harg11 arg12 harg12 arg13 harg13 arg14 harg14 arg15 harg15 arg16 harg16 _ (arg12.view.writes (Elt Ideal) arg12.view.junk [zero12]) (arg13.view.writes (Elt Ideal) arg13.view.junk [zero13]) _ hm κ d).trans (by rw [zero12_read, zero_add])

theorem specA_ropes (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (e : Fin 64) (κ : Fin 4096) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.2.1 (ix3 0 e κ) = P.ropeAdd κ e := by
  rw [runA_eq2]
  have h := point_ropes P c i arg2 harg2 arg3 harg3 arg4 harg4 arg5 harg5 arg6 harg6 arg7 harg7 arg8 harg8 arg9 harg9 arg10 harg10 arg11 harg11 arg12 harg12 arg13 harg13 arg14 harg14 arg15 harg15 arg16 harg16 (ropeBlock (diagC i P.x6) (diagR i P.x7) (diagMask i) P.x0 P.x1 P.x3 P.x4 P.x5 (arg15.view.read (Elt Ideal) (arg15.view.writes (Elt Ideal) arg15.view.junk (deltaL P.x1 P.x2))) (arg16.view.read (Elt Ideal) (arg16.view.writes (Elt Ideal) arg16.view.junk (ropeL P.x0))) (ropesT (View.ld (arg13.view.read (Elt Ideal) (arg13.view.writes (Elt Ideal) arg13.view.junk [zero13])) (Rect.unit (k0_off4 i) S1x64x256.size (k0_off4_inb i))))) (arg12.view.writes (Elt Ideal) arg12.view.junk [zero12]) (arg13.view.writes (Elt Ideal) arg13.view.junk [zero13]) arg14.view.junk hm e κ
  rw [zero13_read, zero_add] at h
  rw [writes_two arg12.view _ _ zero12, writes_two arg13.view _ _ zero13]
  exact h

/-! ## A later grid point -/

theorem specB_queries (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (r : Fin 1536) (d : Fin 576) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).1 (ix3 0 r d) = P.query r d := by
  rw [runB_eq0, show arg12.view.writes (Elt Ideal) (harg12.unread x10) [] = harg12.unread x10 from rfl, show arg13.view.writes (Elt Ideal) (harg13.unread x11) [] = harg13.unread x11 from rfl]
  exact point_queries P c i arg2 harg2 arg3 harg3 arg4 harg4 arg5 harg5 arg6 harg6 arg7 harg7 arg8 harg8 arg9 harg9 arg10 harg10 arg11 harg11 arg12 harg12 arg13 harg13 arg14 harg14 arg15 harg15 arg16 harg16 _ (harg12.unread x10) (harg13.unread x11) _ hm _ r d

theorem specB_keys (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (κ : Fin 4096) (d : Fin 512) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.1 (ix3 0 κ d) = x10 (ix3 0 κ d) + P.keyAdd κ d := by
  rw [runB_eq1, show arg12.view.writes (Elt Ideal) (harg12.unread x10) [] = harg12.unread x10 from rfl, show arg13.view.writes (Elt Ideal) (harg13.unread x11) [] = harg13.unread x11 from rfl]
  exact (point_keys P c i arg2 harg2 arg3 harg3 arg4 harg4 arg5 harg5 arg6 harg6 arg7 harg7 arg8 harg8 arg9 harg9 arg10 harg10 arg11 harg11 arg12 harg12 arg13 harg13 arg14 harg14 arg15 harg15 arg16 harg16 _ (harg12.unread x10) (harg13.unread x11) _ hm κ d).trans (by rw [harg12.read_unread])

theorem specB_ropes (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (e : Fin 64) (κ : Fin 4096) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.2.1 (ix3 0 e κ) = x11 (ix3 0 e κ) + P.ropeAdd κ e := by
  rw [runB_eq2, show arg12.view.writes (Elt Ideal) (harg12.unread x10) [] = harg12.unread x10 from rfl, show arg13.view.writes (Elt Ideal) (harg13.unread x11) [] = harg13.unread x11 from rfl]
  exact (point_ropes P c i arg2 harg2 arg3 harg3 arg4 harg4 arg5 harg5 arg6 harg6 arg7 harg7 arg8 harg8 arg9 harg9 arg10 harg10 arg11 harg11 arg12 harg12 arg13 harg13 arg14 harg14 arg15 harg15 arg16 harg16 _ (harg12.unread x10) (harg13.unread x11) _ hm e κ).trans (by rw [harg13.read_unread])

end Cert.KernelIdeal.Hand

end
-- ==== Proof.Body.lean ====
/- The body of the kernel at one grid point: what it leaves in every buffer, as functions of the blocks it is given. -/
module

public import proofs.«01_k».proof.Proof.Spec

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Tile

local notation "𝕄" => MT nD τ sig Unit (Elt Ideal) ℕ (UR sig nD τ) ℕ

/-- An index of a block whose first axis has one element. -/
theorem idx3_1 {a b : ℕ} (y : (⟨3, ![1, a, b]⟩ : Shape).Idx) : ∃ (p : Fin a) (q : Fin b), y = ix3 0 p q :=
  ⟨y 1, y 2, funext fun k => by
    match k with
    | ⟨0, _⟩ => exact Subsingleton.elim (α := Fin 1) _ _
    | ⟨1, _⟩ => rfl
    | ⟨2, _⟩ => rfl⟩

/-- What a point computes: the query gradients of its rows, and what it adds to the gradients of the keys. -/
def queryBlock (P : Pt) : Vec Ideal S1x1536x576 .bf16 := fun y => P.query (y 1) (y 2)
def keyBlock (P : Pt) : Vec Ideal S1x4096x512 .f32 := fun y => P.keyAdd (y 1) (y 2)
def ropeBlock (P : Pt) : Vec Ideal S1x64x4096 .f32 := fun y => P.ropeAdd (y 2) (y 1)
/-- The same, added to what the buffers hold. -/
def keyOver (P : Pt) (x : Vec Ideal S1x4096x512 .f32) : Vec Ideal S1x4096x512 .f32 := fun y => (x y + P.keyAdd (y 1) (y 2) : EReal)
def ropeOver (P : Pt) (x : Vec Ideal S1x64x4096 .f32) : Vec Ideal S1x64x4096 .f32 := fun y => (x y + P.ropeAdd (y 2) (y 1) : EReal)

theorem queryBlock_ix (P : Pt) (r : Fin 1536) (d : Fin 576) : queryBlock P (ix3 0 r d) = P.query r d := rfl
theorem keyBlock_ix (P : Pt) (κ : Fin 4096) (d : Fin 512) : keyBlock P (ix3 0 κ d) = P.keyAdd κ d := rfl
theorem ropeBlock_ix (P : Pt) (e : Fin 64) (κ : Fin 4096) : ropeBlock P (ix3 0 e κ) = P.ropeAdd κ e := rfl
theorem keyOver_ix (P : Pt) (x : Vec Ideal S1x4096x512 .f32) (κ : Fin 4096) (d : Fin 512) :
    keyOver P x (ix3 0 κ d) = (x (ix3 0 κ d) + P.keyAdd κ d : EReal) := rfl
theorem ropeOver_ix (P : Pt) (x : Vec Ideal S1x64x4096 .f32) (e : Fin 64) (κ : Fin 4096) :
    ropeOver P x (ix3 0 e κ) = (x (ix3 0 e κ) + P.ropeAdd κ e : EReal) := rfl

set_option maxHeartbeats 1600000 in
theorem leftA_queries (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).1 = queryBlock P := by
  funext y
  obtain ⟨r, d, rfl⟩ := idx3_1 y
  rw [queryBlock_ix]
  exact specA_queries P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14 r d

set_option maxHeartbeats 1600000 in
theorem leftA_keys (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.1 = keyBlock P := by
  funext y
  obtain ⟨κ, d, rfl⟩ := idx3_1 y
  rw [keyBlock_ix]
  exact specA_keys P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14 κ d

set_option maxHeartbeats 1600000 in
theorem leftA_ropes (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.2.1 = ropeBlock P := by
  funext y
  obtain ⟨e, κ, rfl⟩ := idx3_1 y
  rw [ropeBlock_ix]
  exact specA_ropes P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14 e κ

set_option maxHeartbeats 1600000 in
/-- The body at the first point of a batch element: the gradients of the keys start from zero. -/
theorem bodyA (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (E : Set ℕ) (K : PUnit → sProp 𝕄) :
    iprop(owns (c : Thread nD τ) arg2 fullShare P.x0 ∗ owns (c : Thread nD τ) arg3 fullShare P.x1 ∗ owns (c : Thread nD τ) arg4 fullShare P.x2 ∗ owns (c : Thread nD τ) arg5 fullShare P.x3 ∗ owns (c : Thread nD τ) arg6 fullShare P.x4 ∗ owns (c : Thread nD τ) arg7 fullShare P.x5 ∗ owns (c : Thread nD τ) arg8 fullShare P.x6 ∗ owns (c : Thread nD τ) arg9 fullShare P.x7 ∗ owns (c : Thread nD τ) arg10 fullShare P.x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
        ∗ (iprop(owns (c : Thread nD τ) arg2 fullShare P.x0 ∗ owns (c : Thread nD τ) arg3 fullShare P.x1 ∗ owns (c : Thread nD τ) arg4 fullShare P.x2 ∗ owns (c : Thread nD τ) arg5 fullShare P.x3 ∗ owns (c : Thread nD τ) arg6 fullShare P.x4 ∗ owns (c : Thread nD τ) arg7 fullShare P.x5 ∗ owns (c : Thread nD τ) arg8 fullShare P.x6 ∗ owns (c : Thread nD τ) arg9 fullShare P.x7 ∗ owns (c : Thread nD τ) arg10 fullShare P.x8 ∗ owns (c : Thread nD τ) arg11 fullShare (queryBlock P) ∗ owns (c : Thread nD τ) arg12 fullShare (keyBlock P) ∗ owns (c : Thread nD τ) arg13 fullShare (ropeBlock P) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_mla_bwd_main (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h := (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.2.2 E K
  rw [leftA_ropes P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14, leftA_keys P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14, leftA_queries P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14] at h
  exact h

set_option maxHeartbeats 1600000 in
theorem leftB_queries (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).1 = queryBlock P := by
  funext y
  obtain ⟨r, d, rfl⟩ := idx3_1 y
  rw [queryBlock_ix]
  exact specB_queries P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14 r d

set_option maxHeartbeats 1600000 in
theorem leftB_keys (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.1 = keyOver P x10 := by
  funext y
  obtain ⟨κ, d, rfl⟩ := idx3_1 y
  rw [keyOver_ix]
  exact specB_keys P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14 κ d

set_option maxHeartbeats 1600000 in
theorem leftB_ropes (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.2.1 = ropeOver P x11 := by
  funext y
  obtain ⟨e, κ, rfl⟩ := idx3_1 y
  rw [ropeOver_ix]
  exact specB_ropes P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14 e κ

set_option maxHeartbeats 1600000 in
/-- The body at a later point of a batch element: the gradients of the keys are added to what the buffers hold. -/
theorem bodyB (P : Pt) (c : Dev nD) (i : grid0.Coords)
  (arg2 : Memref sig .tc .vmem S1x1536x576 .fp8e4m3) (harg2 : arg2.IsWhole)
  (arg3 : Memref sig .tc .vmem S1x1536x512 .fp8e5m2) (harg3 : arg3.IsWhole)
  (arg4 : Memref sig .tc .vmem S1x1536x512 .bf16) (harg4 : arg4.IsWhole)
  (arg5 : Memref sig .tc .vmem S1x1x1536 .f32) (harg5 : arg5.IsWhole)
  (arg6 : Memref sig .tc .vmem S1x1x1536 .f32) (harg6 : arg6.IsWhole)
  (arg7 : Memref sig .tc .vmem S1x1x1536 .f32) (harg7 : arg7.IsWhole)
  (arg8 : Memref sig .tc .vmem S1x4096x512 .bf16) (harg8 : arg8.IsWhole)
  (arg9 : Memref sig .tc .vmem S1x4096x64 .bf16) (harg9 : arg9.IsWhole)
  (arg10 : Memref sig .tc .vmem S1x576x4096 .bf16) (harg10 : arg10.IsWhole)
  (arg11 : Memref sig .tc .vmem S1x1536x576 .bf16) (harg11 : arg11.IsWhole)
  (arg12 : Memref sig .tc .vmem S1x4096x512 .f32) (harg12 : arg12.IsWhole)
  (arg13 : Memref sig .tc .vmem S1x64x4096 .f32) (harg13 : arg13.IsWhole)
  (arg14 : Memref sig .tc .vmem S576x1536 .f32) (harg14 : arg14.IsWhole)
  (arg15 : Memref sig .tc .vmem S1x1536 .f32) (harg15 : arg15.IsWhole)
  (arg16 : Memref sig .tc .vmem S64x1536 .bf16) (harg16 : arg16.IsWhole)
  (hc0 : ¬ cond0_0 i) (hm : P.m = (i 1).val) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (E : Set ℕ) (K : PUnit → sProp 𝕄) :
    iprop(owns (c : Thread nD τ) arg2 fullShare P.x0 ∗ owns (c : Thread nD τ) arg3 fullShare P.x1 ∗ owns (c : Thread nD τ) arg4 fullShare P.x2 ∗ owns (c : Thread nD τ) arg5 fullShare P.x3 ∗ owns (c : Thread nD τ) arg6 fullShare P.x4 ∗ owns (c : Thread nD τ) arg7 fullShare P.x5 ∗ owns (c : Thread nD τ) arg8 fullShare P.x6 ∗ owns (c : Thread nD τ) arg9 fullShare P.x7 ∗ owns (c : Thread nD τ) arg10 fullShare P.x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
        ∗ (iprop(owns (c : Thread nD τ) arg2 fullShare P.x0 ∗ owns (c : Thread nD τ) arg3 fullShare P.x1 ∗ owns (c : Thread nD τ) arg4 fullShare P.x2 ∗ owns (c : Thread nD τ) arg5 fullShare P.x3 ∗ owns (c : Thread nD τ) arg6 fullShare P.x4 ∗ owns (c : Thread nD τ) arg7 fullShare P.x5 ∗ owns (c : Thread nD τ) arg8 fullShare P.x6 ∗ owns (c : Thread nD τ) arg9 fullShare P.x7 ∗ owns (c : Thread nD τ) arg10 fullShare P.x8 ∗ owns (c : Thread nD τ) arg11 fullShare (queryBlock P) ∗ owns (c : Thread nD τ) arg12 fullShare (keyOver P x10) ∗ owns (c : Thread nD τ) arg13 fullShare (ropeOver P x11) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_mla_bwd_main (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h := (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 P.x0 P.x1 P.x2 P.x3 P.x4 P.x5 P.x6 P.x7 P.x8 x9 x10 x11 x12 x13 x14).2.2.2 E K
  rw [leftB_ropes P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14, leftB_keys P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14, leftB_queries P c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hm x9 x10 x11 x12 x13 x14] at h
  exact h

end Cert.KernelIdeal.Hand
-- ==== Proof.Run.lean ====
/- The run of the whole kernel on extended reals: what the body leaves in every buffer at every grid point, and so in the
   result arrays at the end. -/
module

public import proofs.«01_k».proof.Proof.Body
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile
open scoped BigOperators

local notation "𝕄" => MT nD τ sig Unit (Elt Ideal) ℕ (UR sig nD τ) ℕ

variable (m : (ℓ : Loc nD τ sig) → Buf (Elt Ideal) ℓ) (ρ : Dev nD → PrngReg)

/-- The blocks of grid point `t`, and its number within its batch element. -/
def ptAt (c : Dev nD) (t : Fin cfg0.N) : Pt :=
  ⟨iblk m c 0 t, iblk m c 1 t, iblk m c 2 t, iblk m c 3 t, iblk m c 4 t, iblk m c 5 t, iblk m c 6 t, iblk m c 7 t, iblk m c 8 t, (grid0.coords t 1).val⟩

/-- What point `t` computes: the query gradients of its rows, and what it adds to the gradients of the keys. -/
def queriesAt (c : Dev nD) (t : Fin cfg0.N) : Vec Ideal S1x1536x576 .bf16 := queryBlock (ptAt m c t)
def keysAt (c : Dev nD) (t : Fin cfg0.N) : Vec Ideal S1x4096x512 .f32 := keyBlock (ptAt m c t)
def ropesAt (c : Dev nD) (t : Fin cfg0.N) : Vec Ideal S1x64x4096 .f32 := ropeBlock (ptAt m c t)

/-- The same for a number that need not be a grid point's. -/
def keysNat (c : Dev nD) (n : ℕ) : Vec Ideal S1x4096x512 .f32 := fun y => if h : n < cfg0.N then keysAt m c ⟨n, h⟩ y else (0 : EReal)
def ropesNat (c : Dev nD) (n : ℕ) : Vec Ideal S1x64x4096 .f32 := fun y => if h : n < cfg0.N then ropesAt m c ⟨n, h⟩ y else (0 : EReal)

/-- The gradients of the keys after point `t`: the sum over the points of its batch element up to `t`. -/
def keySum (c : Dev nD) (t : Fin cfg0.N) : Vec Ideal S1x4096x512 .f32 :=
  fun y => (∑ k ∈ Finset.range (t.val % 128 + 1), keysNat m c (128 * (t.val / 128) + k) y : EReal)
def ropeSum (c : Dev nD) (t : Fin cfg0.N) : Vec Ideal S1x64x4096 .f32 :=
  fun y => (∑ k ∈ Finset.range (t.val % 128 + 1), ropesNat m c (128 * (t.val / 128) + k) y : EReal)

/-- The point before `t`. -/
abbrev prev (t : Fin cfg0.N) : Fin cfg0.N := ⟨t.val - 1, Nat.lt_of_le_of_lt (Nat.sub_le _ _) t.isLt⟩

theorem keysNat_val (c : Dev nD) (t : Fin cfg0.N) : keysNat m c t.val = keysAt m c t := funext fun y => dif_pos t.isLt
theorem keySum_first (c : Dev nD) (t : Fin cfg0.N) (h : t.val % 128 = 0) : keySum m c t = keysAt m c t := funext fun y => by
  unfold keySum
  rw [h, Finset.sum_range_one, show 128 * (t.val / 128) + 0 = t.val by omega, keysNat_val]
theorem keySum_later (c : Dev nD) (t : Fin cfg0.N) (h : ¬ t.val % 128 = 0) :
    keySum m c t = keyOver (ptAt m c t) (keySum m c (prev t)) := funext fun y => by
  show _ = (keySum m c (prev t) y + keysAt m c t y : EReal)
  unfold keySum
  rw [Finset.sum_range_succ, show 128 * (t.val / 128) + t.val % 128 = t.val by omega, keysNat_val,
    show (prev t).val / 128 = t.val / 128 from by show (t.val - 1) / 128 = _; omega,
    show (prev t).val % 128 + 1 = t.val % 128 from by show (t.val - 1) % 128 + 1 = _; omega]

theorem ropesNat_val (c : Dev nD) (t : Fin cfg0.N) : ropesNat m c t.val = ropesAt m c t := funext fun y => dif_pos t.isLt
theorem ropeSum_first (c : Dev nD) (t : Fin cfg0.N) (h : t.val % 128 = 0) : ropeSum m c t = ropesAt m c t := funext fun y => by
  unfold ropeSum
  rw [h, Finset.sum_range_one, show 128 * (t.val / 128) + 0 = t.val by omega, ropesNat_val]
theorem ropeSum_later (c : Dev nD) (t : Fin cfg0.N) (h : ¬ t.val % 128 = 0) :
    ropeSum m c t = ropeOver (ptAt m c t) (ropeSum m c (prev t)) := funext fun y => by
  show _ = (ropeSum m c (prev t) y + ropesAt m c t y : EReal)
  unfold ropeSum
  rw [Finset.sum_range_succ, show 128 * (t.val / 128) + t.val % 128 = t.val by omega, ropesNat_val,
    show (prev t).val / 128 = t.val / 128 from by show (t.val - 1) / 128 = _; omega,
    show (prev t).val % 128 + 1 = t.val % 128 from by show (t.val - 1) % 128 + 1 = _; omega]

/-! ## The body at a grid point -/

set_option maxHeartbeats 3200000 in
/-- The body at the first point of a batch element, on the point's blocks. -/
theorem run_first (c : Dev nD) (t : Fin cfg0.N) (h0 : t.val % 128 = 0) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (E : Set ℕ) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare x9 ∗ owns (c : Thread nD τ) (ms0_10 t) fullShare x10 ∗ owns (c : Thread nD τ) (ms0_11 t) fullShare x11 ∗ owns (c : Thread nD τ) scM0_0 fullShare x12 ∗ owns (c : Thread nD τ) scM0_1 fullShare x13 ∗ owns (c : Thread nD τ) scM0_2 fullShare x14
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (queriesAt m c t) ∗ owns (c : Thread nD τ) (ms0_10 t) fullShare (keysAt m c t) ∗ owns (c : Thread nD τ) (ms0_11 t) fullShare (ropesAt m c t) ∗ (∃ d, owns (c : Thread nD τ) scM0_0 fullShare d) ∗ (∃ d, owns (c : Thread nD τ) scM0_1 fullShare d) ∗ (∃ d, owns (c : Thread nD τ) scM0_2 fullShare d)) -∗ K ⟨⟩))
      ⊢ wp frame (wpE (defs₀ (F := Ideal)) Variants.none c none) E (bodyAt0 (F := Ideal) t) K :=
  bodyA (ptAt m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) rfl x9 x10 x11 x12 x13 x14 E K

set_option maxHeartbeats 3200000 in
/-- The body at a later point of a batch element, on the point's blocks. -/
theorem run_later (c : Dev nD) (t : Fin cfg0.N) (h0 : ¬ t.val % 128 = 0) (x9 : Vec Ideal S1x1536x576 .bf16) (x10 : Vec Ideal S1x4096x512 .f32) (x11 : Vec Ideal S1x64x4096 .f32) (x12 : Vec Ideal S576x1536 .f32) (x13 : Vec Ideal S1x1536 .f32) (x14 : Vec Ideal S64x1536 .bf16) (E : Set ℕ) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare x9 ∗ owns (c : Thread nD τ) (ms0_10 t) fullShare x10 ∗ owns (c : Thread nD τ) (ms0_11 t) fullShare x11 ∗ owns (c : Thread nD τ) scM0_0 fullShare x12 ∗ owns (c : Thread nD τ) scM0_1 fullShare x13 ∗ owns (c : Thread nD τ) scM0_2 fullShare x14
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (queriesAt m c t) ∗ owns (c : Thread nD τ) (ms0_10 t) fullShare (keyOver (ptAt m c t) x10) ∗ owns (c : Thread nD τ) (ms0_11 t) fullShare (ropeOver (ptAt m c t) x11) ∗ (∃ d, owns (c : Thread nD τ) scM0_0 fullShare d) ∗ (∃ d, owns (c : Thread nD τ) scM0_1 fullShare d) ∗ (∃ d, owns (c : Thread nD τ) scM0_2 fullShare d)) -∗ K ⟨⟩))
      ⊢ wp frame (wpE (defs₀ (F := Ideal)) Variants.none c none) E (bodyAt0 (F := Ideal) t) K :=
  bodyB (ptAt m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) rfl x9 x10 x11 x12 x13 x14 E K

/-! ## The data of the run -/

/-- The data of the run on core `c`: the arrays as launched; after the body at point `t` each input's buffer holds its block and
each output's what is stated above; the scratch buffers hold anything. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => queriesAt m c t
    | ⟨10, _⟩ => keySum m c t
    | ⟨11, _⟩ => ropeSum m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = queriesAt m c t := by dsimp only [dats]
theorem after0_10 (c : Dev nD) (t : Fin cfg0.N) : (dats m 0 c).after 10 t = keySum m c t := by dsimp only [dats]
theorem after0_11 (c : Dev nD) (t : Fin cfg0.N) : (dats m 0 c).after 11 t = ropeSum m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a later point the buffer holds what the point before left. -/
theorem before0_10 (c : Dev nD) (t : Fin cfg0.N) (h : ¬ t.val % 128 = 0) (d) : (dats m 0 c).before 10 t d = keySum m c (prev t) :=
  ((dats m 0 c).before_out_kept 10 rfl t (fun h0 => h (by rw [h0]))
    (Bool.eq_false_iff.mpr fun hf => h (by have := (flush0_10 (prev t)).mp hf; have h1 : (prev t).val = t.val - 1 := rfl; omega))
    (fun _ => rfl) (fun _ _ => rfl) d).trans (after0_10 m c (prev t))
theorem before0_10_later (c : Dev nD) (t : Fin cfg0.N) (h : ¬ t.val % 128 = 0) : (dats m 0 c).before 10 t = fun _ => keySum m c (prev t) :=
  funext fun d => before0_10 m c t h d
/-- At a later point the buffer holds what the point before left. -/
theorem before0_11 (c : Dev nD) (t : Fin cfg0.N) (h : ¬ t.val % 128 = 0) (d) : (dats m 0 c).before 11 t d = ropeSum m c (prev t) :=
  ((dats m 0 c).before_out_kept 11 rfl t (fun h0 => h (by rw [h0]))
    (Bool.eq_false_iff.mpr fun hf => h (by have := (flush0_11 (prev t)).mp hf; have h1 : (prev t).val = t.val - 1 := rfl; omega))
    (fun _ => rfl) (fun _ _ => rfl) d).trans (after0_11 m c (prev t))
theorem before0_11_later (c : Dev nD) (t : Fin cfg0.N) (h : ¬ t.val % 128 = 0) : (dats m 0 c).before 11 t = fun _ => ropeSum m c (prev t) :=
  funext fun d => before0_11 m c t h d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2400000 in
/-- The body at any point. -/
theorem sound_body (c : Dev nD) (t : Fin cfg0.N) :
    bodyPre m c t ⊢ wp frame (wpE (defs₀ (F := Ideal)) Variants.none c none) Set.univ (bodyAt0 (F := Ideal) t) (fun _ => bodyPost m c t) := by
  unfold bodyPre bodyPost
  simp only [before0_0 m c t, before0_1 m c t, before0_2 m c t, before0_3 m c t, before0_4 m c t, before0_5 m c t, before0_6 m c t, before0_7 m c t, before0_8 m c t]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  by_cases h0 : t.val % 128 = 0
  · rw [keySum_first m c t h0, ropeSum_first m c t h0]
    iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_first m c t h0 _ _ _ s0 s1 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [before0_10_later m c t h0, before0_11_later m c t h0, keySum_later m c t h0, ropeSum_later m c t h0]
    iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_later m c t h0 _ _ _ s0 s1 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, with the arrays at what the data say and every semaphore counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Hand

end
-- ==== Proof.Whole.lean ====
/- The gradients over the whole arrays, written twice: in the kernel's order of operations, summed over all the rows, and in the
   plain order, and that the two agree where the scales of the output gradient are nonnegative and finite. -/
module

public import proofs.«01_k».proof.Proof.Point

@[expose] public section

noncomputable section

namespace Cert.KernelIdeal.Tile

open Idealize.ShloMosaic Idealize.SL.Sem Idealize.ShloMosaic.ValueIdx
open Cert.KernelIdeal Cert.KernelIdeal.Gen
open scoped BigOperators

/-- The argument arrays: queries, output gradients, outputs, the scales of the queries, the logarithms of the softmax sums, the scales
of the output gradients, the keys, the rotary keys, and the keys with their rotary lanes, transposed. -/
structure Whole where
  x0 : Vec Ideal S2x196608x576 .fp8e4m3
  x1 : Vec Ideal S2x196608x512 .fp8e5m2
  x2 : Vec Ideal S2x196608x512 .bf16
  x3 : Vec Ideal S2x1x196608 .f32
  x4 : Vec Ideal S2x1x196608 .f32
  x5 : Vec Ideal S2x1x196608 .f32
  x6 : Vec Ideal S2x4096x512 .bf16
  x7 : Vec Ideal S2x4096x64 .bf16
  x8 : Vec Ideal S2x576x4096 .bf16

/-! ## Arithmetic of extended reals -/

/-- A finite nonnegative factor goes into a sum. -/
theorem mul_sum_of_finite {ι : Type*} (s : Finset ι) (f : ι → EReal) {a : EReal} (h0 : 0 ≤ a) (h1 : a ≠ ⊤) :
    ∑ i ∈ s, a * f i = a * ∑ i ∈ s, f i := by
  classical
  induction s using Finset.induction_on with
  | empty => rw [Finset.sum_empty, Finset.sum_empty, mul_zero]
  | insert i s hi ih => rw [Finset.sum_insert hi, Finset.sum_insert hi, ih, EReal.left_distrib_of_nonneg_of_ne_top h0 h1]

/-- A finite nonnegative factor goes into a difference. -/
theorem mul_sub_of_finite {a : EReal} (h0 : 0 ≤ a) (h1 : a ≠ ⊤) (x y : EReal) : a * (x - y) = a * x - a * y := by
  rw [sub_eq_add_neg, EReal.left_distrib_of_nonneg_of_ne_top h0 h1, sub_eq_add_neg, mul_neg]

theorem log2_pos : (0 : ℝ) < (Real.log 2)⁻¹ := inv_pos.mpr (Real.log_pos one_lt_two)

/-- The exponential by powers of two. -/
theorem exp_eq_exp2 (x : EReal) : Ideal.exp x = Ideal.exp2 (log2e * x) := by
  unfold log2e
  induction x with
  | bot => rw [EReal.coe_mul_bot_of_pos log2_pos, Ideal.exp_bot, Ideal.exp2_bot]
  | top => rw [EReal.coe_mul_top_of_pos log2_pos, Ideal.exp_top, Ideal.exp2_top]
  | coe r =>
    rw [← EReal.coe_mul, Ideal.exp_coe, Ideal.exp2_coe]
    refine congrArg _ ?_
    show Real.exp r = (2 : ℝ) ^ ((Real.log 2)⁻¹ * r)
    rw [Real.rpow_def_of_pos two_pos, ← mul_assoc, mul_inv_cancel₀ (Real.log_pos one_lt_two).ne', one_mul]

theorem log2e_mul_scale : log2e * scale = scaleLog2e := by
  unfold log2e scale scaleLog2e
  rw [← EReal.coe_mul, mul_comm]

/-- The probability from the raw score, its scale and the logarithm of the sum: both ways of writing it. -/
theorem prob_eq (raw q l : EReal) : Ideal.exp (scale * (raw * q) - l) = Ideal.exp2 (raw * (q * scaleLog2e) - l * log2e) := by
  rw [exp_eq_exp2, mul_sub_of_finite (a := log2e) (EReal.coe_nonneg.mpr log2_pos.le) (EReal.coe_ne_top _), ← mul_assoc log2e, log2e_mul_scale,
    mul_comm log2e l, mul_comm scaleLog2e, mul_assoc]

/-- A sum over the 576 lanes: the first 512, then the 64 rotary ones. -/
theorem sum_lanes (f : Fin 576 → EReal) : ∑ d, f d = (∑ d : Fin 512, f (lo d)) + ∑ e : Fin 64, f (hi e) :=
  Fin.sum_univ_add (a := 512) (b := 64) f

namespace Whole
variable (W : Whole) (b : Fin 2) (κ : Fin 4096) (R : Fin 196608)

/-! ## In the kernel's order -/

def raw : EReal := (∑ d : Fin 512, W.x6 (ix3 b κ d) * W.x0 (ix3 b R (lo d))) + ∑ e : Fin 64, W.x7 (ix3 b κ e) * W.x0 (ix3 b R (hi e))
def dp : EReal := ∑ d : Fin 512, W.x6 (ix3 b κ d) * W.x1 (ix3 b R d)
def delta : EReal := ∑ d : Fin 512, W.x1 (ix3 b R d) * W.x2 (ix3 b R d)
def pm : EReal :=
  if κ.val ≤ R.val / 48 then Ideal.exp2 (W.raw b κ R * (W.x3 (ix3 b 0 R) * scaleLog2e) - W.x4 (ix3 b 0 R) * log2e) else 0
def ds : EReal := (W.pm b κ R * (W.dp b κ R - W.delta b R)) * (W.x5 (ix3 b 0 R) * scale)
def keyTerm (d : Fin 512) : EReal :=
  (W.ds b κ R * W.x3 (ix3 b 0 R)) * W.x0 (ix3 b R (lo d)) + (W.pm b κ R * W.x5 (ix3 b 0 R)) * W.x1 (ix3 b R d)
def ropeTerm (e : Fin 64) : EReal := W.x0 (ix3 b R (hi e)) * (W.ds b κ R * W.x3 (ix3 b 0 R))
def queryTerm (d : Fin 576) : EReal := W.x8 (ix3 b d κ) * W.ds b κ R

/-- The three results: the gradients of the queries, of the keys, and of the rotary keys (transposed). -/
def queries : Vec Ideal S2x196608x576 .bf16 := fun y => (∑ κ : Fin 4096, W.queryTerm (y 0) κ (y 1) (y 2) : EReal)
def keys : Vec Ideal S2x4096x512 .f32 := fun y => (∑ R : Fin 196608, W.keyTerm (y 0) (y 1) R (y 2) : EReal)
def ropes : Vec Ideal S2x64x4096 .f32 := fun y => (∑ R : Fin 196608, W.ropeTerm (y 0) (y 2) R (y 1) : EReal)

/-! ## In the plain order -/

/-- Lane `d` of key `κ`: the first 512 lanes from the keys, the last 64 from the rotary keys. -/
def full (d : Fin 576) : EReal := if h : d.val < 512 then W.x6 (ix3 b κ ⟨d.val, h⟩) else W.x7 (ix3 b κ ⟨d.val - 512, by omega⟩)
def prob : EReal :=
  if κ.val ≤ R.val / 48 then
    Ideal.exp (scale * ((∑ d : Fin 576, W.x0 (ix3 b R d) * W.full b κ d) * W.x3 (ix3 b 0 R)) - W.x4 (ix3 b 0 R)) else 0
def dprob : EReal := (∑ d : Fin 512, W.x1 (ix3 b R d) * W.x6 (ix3 b κ d)) * W.x5 (ix3 b 0 R)
def rowSum : EReal := ∑ d : Fin 512, (W.x1 (ix3 b R d) * W.x5 (ix3 b 0 R)) * W.x2 (ix3 b R d)
def dscore : EReal := scale * (W.prob b κ R * (W.dprob b κ R - W.rowSum b R))
def dkey (d : Fin 576) : EReal := ∑ R : Fin 196608, W.dscore b κ R * (W.x0 (ix3 b R d) * W.x3 (ix3 b 0 R))
def dvalue (d : Fin 512) : EReal := ∑ R : Fin 196608, W.prob b κ R * (W.x1 (ix3 b R d) * W.x5 (ix3 b 0 R))
def dquery (d : Fin 576) : EReal := ∑ κ : Fin 4096, W.dscore b κ R * W.x8 (ix3 b d κ)

/-! ## The two agree -/

theorem full_lo (d : Fin 512) : W.full b κ (lo d) = W.x6 (ix3 b κ d) := dif_pos d.isLt
theorem full_hi (e : Fin 64) : W.full b κ (hi e) = W.x7 (ix3 b κ e) := by
  unfold full
  rw [dif_neg (by show ¬ 512 + e.val < 512; omega)]
  exact congrArg (fun x => W.x7 (ix3 b κ x)) (Fin.ext (by show 512 + e.val - 512 = e.val; omega))

theorem raw_eq : ∑ d : Fin 576, W.x0 (ix3 b R d) * W.full b κ d = W.raw b κ R := by
  rw [sum_lanes]
  refine congrArg₂ (· + ·) (Finset.sum_congr rfl fun d _ => ?_) (Finset.sum_congr rfl fun e _ => ?_)
  · rw [full_lo]; exact mul_comm _ _
  · rw [full_hi]; exact mul_comm _ _

theorem prob_eq_pm : W.prob b κ R = W.pm b κ R := by
  unfold prob pm
  rw [raw_eq, prob_eq]

theorem dscore_eq (h0 : (0 : EReal) ≤ W.x5 (ix3 b 0 R)) (h1 : (W.x5 (ix3 b 0 R) : EReal) ≠ ⊤) : W.dscore b κ R = W.ds b κ R := by
  have hd : W.dprob b κ R = W.x5 (ix3 b 0 R) * W.dp b κ R := by
    unfold dprob dp
    rw [mul_comm]
    exact congrArg _ (Finset.sum_congr rfl fun d _ => mul_comm _ _)
  have hr : W.rowSum b R = W.x5 (ix3 b 0 R) * W.delta b R := by
    unfold rowSum delta
    rw [← mul_sum_of_finite _ _ h0 h1]
    exact Finset.sum_congr rfl fun d _ => by rw [mul_comm (W.x1 (ix3 b R d) : EReal), mul_assoc]
  unfold dscore ds
  rw [hd, hr, ← mul_sub_of_finite h0 h1, prob_eq_pm, mul_comm scale, mul_comm (W.x5 (ix3 b 0 R) : EReal), ← mul_assoc, mul_assoc]

theorem queries_eq (h : ∀ b R, (0 : EReal) ≤ W.x5 (ix3 b 0 R) ∧ (W.x5 (ix3 b 0 R) : EReal) ≠ ⊤) (d : Fin 576) :
    W.dquery b R d = W.queries (ix3 b R d) :=
  Finset.sum_congr rfl fun κ _ => by
    rw [W.dscore_eq b κ R (h b R).1 (h b R).2]; exact mul_comm _ _

theorem keys_eq (h : ∀ b R, (0 : EReal) ≤ W.x5 (ix3 b 0 R) ∧ (W.x5 (ix3 b 0 R) : EReal) ≠ ⊤) (d : Fin 512) :
    W.dkey b κ (lo d) + W.dvalue b κ d = W.keys (ix3 b κ d) := by
  unfold dkey dvalue
  rw [← Finset.sum_add_distrib]
  exact Finset.sum_congr rfl fun R _ => by
    rw [W.dscore_eq b κ R (h b R).1 (h b R).2, prob_eq_pm, mul_comm (W.x0 (ix3 b R (lo d)) : EReal), ← mul_assoc,
      mul_comm (W.x1 (ix3 b R d) : EReal), ← mul_assoc]
    rfl

theorem ropes_eq (h : ∀ b R, (0 : EReal) ≤ W.x5 (ix3 b 0 R) ∧ (W.x5 (ix3 b 0 R) : EReal) ≠ ⊤) (e : Fin 64) :
    W.dkey b κ (hi e) = W.ropes (ix3 b e κ) :=
  Finset.sum_congr rfl fun R _ => by
    rw [W.dscore_eq b κ R (h b R).1 (h b R).2, mul_comm (W.x0 (ix3 b R (hi e)) : EReal), ← mul_assoc, mul_comm]; rfl

end Whole

/-! ## A grid point's part -/

/-- Row `r` of grid point `m` of a batch element. -/
def grow (m : Fin 128) (r : Fin 1536) : Fin 196608 := ⟨1536 * m.val + r.val, by omega⟩

/-- A sum over all the rows, grid point by grid point. -/
theorem sum_grow {M : Type*} [AddCommMonoid M] (f : Fin 196608 → M) : ∑ R, f R = ∑ m : Fin 128, ∑ r : Fin 1536, f (grow m r) := by
  rw [← Equiv.sum_comp (finProdFinEquiv (m := 128) (n := 1536)) f, Fintype.sum_prod_type]
  refine Finset.sum_congr rfl fun n _ => Finset.sum_congr rfl fun t _ => congrArg f (Fin.ext ?_)
  show t.val + 1536 * n.val = 1536 * n.val + t.val
  omega

/-- The blocks of grid point `m` of batch element `b` are the arrays' own. -/
structure PartOf (P : Pt) (W : Whole) (b : Fin 2) (m : Fin 128) : Prop where
  h0 : ∀ r d, P.x0 (ix3 0 r d) = W.x0 (ix3 b (grow m r) d)
  h1 : ∀ r d, P.x1 (ix3 0 r d) = W.x1 (ix3 b (grow m r) d)
  h2 : ∀ r d, P.x2 (ix3 0 r d) = W.x2 (ix3 b (grow m r) d)
  h3 : ∀ r, P.x3 (ix3 0 0 r) = W.x3 (ix3 b 0 (grow m r))
  h4 : ∀ r, P.x4 (ix3 0 0 r) = W.x4 (ix3 b 0 (grow m r))
  h5 : ∀ r, P.x5 (ix3 0 0 r) = W.x5 (ix3 b 0 (grow m r))
  h6 : ∀ k d, P.x6 (ix3 0 k d) = W.x6 (ix3 b k d)
  h7 : ∀ k e, P.x7 (ix3 0 k e) = W.x7 (ix3 b k e)
  h8 : ∀ d k, P.x8 (ix3 0 d k) = W.x8 (ix3 b d k)
  hm : P.m = m.val

namespace PartOf
variable {P : Pt} {W : Whole} {b : Fin 2} {m : Fin 128} (H : PartOf P W b m) (κ : Fin 4096) (r : Fin 1536)
include H

theorem raw_eq : P.raw κ r = W.raw b κ (grow m r) := by
  unfold Pt.raw Whole.raw
  refine congrArg₂ (· + ·) (Finset.sum_congr rfl fun d _ => ?_) (Finset.sum_congr rfl fun e _ => ?_)
  · rw [H.h6, H.h0]
  · rw [H.h7, H.h0]

theorem dp_eq : P.dp κ r = W.dp b κ (grow m r) := by
  unfold Pt.dp Whole.dp
  exact Finset.sum_congr rfl fun d _ => by rw [H.h6, H.h1]

theorem delta_eq : delta P.x1 P.x2 r = W.delta b (grow m r) := by
  unfold Tile.delta Whole.delta
  exact Finset.sum_congr rfl fun d _ => by rw [H.h1, H.h2]

theorem pm_eq : P.pm κ r = W.pm b κ (grow m r) := by
  have hq : 32 * P.m + r.val / 48 = (grow m r).val / 48 := by
    rw [H.hm]; show 32 * m.val + r.val / 48 = (1536 * m.val + r.val) / 48; omega
  unfold Pt.pm Whole.pm
  rw [H.raw_eq, H.h3, H.h4, hq]

theorem ds_eq : P.ds κ r = W.ds b κ (grow m r) := by
  unfold Pt.ds Whole.ds
  rw [H.pm_eq, H.dp_eq, H.delta_eq, H.h5]

theorem keyAdd_eq (d : Fin 512) : P.keyAdd κ d = ∑ r : Fin 1536, W.keyTerm b κ (grow m r) d :=
  Finset.sum_congr rfl fun r _ => by
    unfold Pt.keyTerm Whole.keyTerm
    rw [H.ds_eq, H.pm_eq, H.h3, H.h5, H.h0, H.h1]

theorem ropeAdd_eq (e : Fin 64) : P.ropeAdd κ e = ∑ r : Fin 1536, W.ropeTerm b κ (grow m r) e :=
  Finset.sum_congr rfl fun r _ => by
    unfold Pt.ropeTerm Whole.ropeTerm
    rw [H.ds_eq, H.h3, H.h0]

theorem query_eq (d : Fin 576) : P.query r d = ∑ κ : Fin 4096, W.queryTerm b κ (grow m r) d :=
  Finset.sum_congr rfl fun κ _ => by
    unfold Pt.queryTerm Whole.queryTerm
    rw [H.ds_eq, H.h8]

end PartOf

end Cert.KernelIdeal.Tile
-- ==== Proof.Parts.lean ====
/- What each grid point is given: the blocks of its rows, and the whole arrays of keys of its batch element. -/
module

public import proofs.«01_k».proof.Proof.Whole
public import proofs.«01_k».proof.Proof.Gen.KernelIdeal.Frame
public import Idealize.ShloMosaic.Lib.Pipeline.ValueKit.Geometry

@[expose] public section

set_option maxRecDepth 16384

noncomputable section

namespace Cert.KernelIdeal.Parts

open Idealize.ShloMosaic Idealize.ShloMosaic.TcCoe Idealize.ShloMosaic.ValueIdx Idealize.SL.Sem
open Cert.KernelIdeal Cert.KernelIdeal.Gen Cert.KernelIdeal.Tile

variable (m : (ℓ : Loc nD τ sig) → Buf (Elt Ideal) ℓ)

/-- The argument arrays of core `c`. -/
def wholeAt (c : Dev nD) : Whole :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8)⟩

/-! ## The grid: point `t` is rows `1536 * (t % 128) …` of batch element `t / 128` -/

theorem step_val : ∀ t : Fin cfg0.N, (grid0.coords t 1).val = t.val % 128 := (by decide +kernel : ∀ t : Fin grid0.N, _)
theorem lt_points (t : Fin cfg0.N) : t.val < 256 := lt_of_lt_of_eq t.isLt N_0

/-- The batch element of point `t`, and its number within it. -/
def batch (t : Fin cfg0.N) : Fin 2 := ⟨t.val / 128, by have := lt_points t; omega⟩
def step (t : Fin cfg0.N) : Fin 128 := ⟨t.val % 128, Nat.mod_lt _ (by decide)⟩

/-! Which block of each array a point is given. -/

theorem e0 : ∀ t : Fin cfg0.N, win0_0.index t = ![t.val / 128, t.val % 128, 0] := (by decide +kernel : ∀ t : Fin grid0.N, _)
theorem e1 : ∀ t : Fin cfg0.N, win0_1.index t = ![t.val / 128, t.val % 128, 0] := (by decide +kernel : ∀ t : Fin grid0.N, _)
theorem e2 : ∀ t : Fin cfg0.N, win0_2.index t = ![t.val / 128, t.val % 128, 0] := (by decide +kernel : ∀ t : Fin grid0.N, _)
theorem e3 : ∀ t : Fin cfg0.N, win0_3.index t = ![t.val / 128, 0, t.val % 128] := (by decide +kernel : ∀ t : Fin grid0.N, _)
theorem e4 : ∀ t : Fin cfg0.N, win0_4.index t = ![t.val / 128, 0, t.val % 128] := (by decide +kernel : ∀ t : Fin grid0.N, _)
theorem e5 : ∀ t : Fin cfg0.N, win0_5.index t = ![t.val / 128, 0, t.val % 128] := (by decide +kernel : ∀ t : Fin grid0.N, _)
theorem e6 : ∀ t : Fin cfg0.N, win0_6.index t = ![t.val / 128, 0, 0] := (by decide +kernel : ∀ t : Fin grid0.N, _)
theorem e7 : ∀ t : Fin cfg0.N, win0_7.index t = ![t.val / 128, 0, 0] := (by decide +kernel : ∀ t : Fin grid0.N, _)
theorem e8 : ∀ t : Fin cfg0.N, win0_8.index t = ![t.val / 128, 0, 0] := (by decide +kernel : ∀ t : Fin grid0.N, _)
theorem e9 : ∀ t : Fin cfg0.N, win0_9.index t = ![t.val / 128, t.val % 128, 0] := (by decide +kernel : ∀ t : Fin grid0.N, _)
theorem e10 : ∀ t : Fin cfg0.N, win0_10.index t = ![t.val / 128, 0, 0] := (by decide +kernel : ∀ t : Fin grid0.N, _)
theorem e11 : ∀ t : Fin cfg0.N, win0_11.index t = ![t.val / 128, 0, 0] := (by decide +kernel : ∀ t : Fin grid0.N, _)

/-! ## The blocks, at coordinates -/

section Blocks

variable (c : Dev nD) (t : Fin cfg0.N)

theorem rows0 (r : Fin 1536) (d : Fin 576) :
    (iblk m c 0 t : Vec Ideal S1x1536x576 .fp8e4m3) (ix3 0 r d) = (wholeAt m c).x0 (ix3 (batch t) (grow (step t) r) d) := by
  blk_simp [iblk]
  refine congrArg (m ((c : Thread nD τ).loc main_arg0)) (?_ : _ = (ix3 (batch t) (grow (step t) r) d : S2x196608x576.Idx))
  blk_ext [e0, batch, step, grow]
  show t.val % 128 * 1536 + r.val = 1536 * (t.val % 128) + r.val
  omega

theorem rows1 (r : Fin 1536) (d : Fin 512) :
    (iblk m c 1 t : Vec Ideal S1x1536x512 .fp8e5m2) (ix3 0 r d) = (wholeAt m c).x1 (ix3 (batch t) (grow (step t) r) d) := by
  blk_simp [iblk]
  refine congrArg (m ((c : Thread nD τ).loc main_arg1)) (?_ : _ = (ix3 (batch t) (grow (step t) r) d : S2x196608x512.Idx))
  blk_ext [e1, batch, step, grow]
  show t.val % 128 * 1536 + r.val = 1536 * (t.val % 128) + r.val
  omega

theorem rows2 (r : Fin 1536) (d : Fin 512) :
    (iblk m c 2 t : Vec Ideal S1x1536x512 .bf16) (ix3 0 r d) = (wholeAt m c).x2 (ix3 (batch t) (grow (step t) r) d) := by
  blk_simp [iblk]
  refine congrArg (m ((c : Thread nD τ).loc main_arg2)) (?_ : _ = (ix3 (batch t) (grow (step t) r) d : S2x196608x512.Idx))
  blk_ext [e2, batch, step, grow]
  show t.val % 128 * 1536 + r.val = 1536 * (t.val % 128) + r.val
  omega

theorem rows3 (r : Fin 1536) :
    (iblk m c 3 t : Vec Ideal S1x1x1536 .f32) (ix3 0 0 r) = (wholeAt m c).x3 (ix3 (batch t) 0 (grow (step t) r)) := by
  blk_simp [iblk]
  refine congrArg (m ((c : Thread nD τ).loc main_arg3)) (?_ : _ = (ix3 (batch t) 0 (grow (step t) r) : S2x1x196608.Idx))
  blk_ext [e3, batch, step, grow]
  show t.val % 128 * 1536 + r.val = 1536 * (t.val % 128) + r.val
  omega

theorem rows4 (r : Fin 1536) :
    (iblk m c 4 t : Vec Ideal S1x1x1536 .f32) (ix3 0 0 r) = (wholeAt m c).x4 (ix3 (batch t) 0 (grow (step t) r)) := by
  blk_simp [iblk]
  refine congrArg (m ((c : Thread nD τ).loc main_arg4)) (?_ : _ = (ix3 (batch t) 0 (grow (step t) r) : S2x1x196608.Idx))
  blk_ext [e4, batch, step, grow]
  show t.val % 128 * 1536 + r.val = 1536 * (t.val % 128) + r.val
  omega

theorem rows5 (r : Fin 1536) :
    (iblk m c 5 t : Vec Ideal S1x1x1536 .f32) (ix3 0 0 r) = (wholeAt m c).x5 (ix3 (batch t) 0 (grow (step t) r)) := by
  blk_simp [iblk]
  refine congrArg (m ((c : Thread nD τ).loc main_arg5)) (?_ : _ = (ix3 (batch t) 0 (grow (step t) r) : S2x1x196608.Idx))
  blk_ext [e5, batch, step, grow]
  show t.val % 128 * 1536 + r.val = 1536 * (t.val % 128) + r.val
  omega

theorem keys6 (k : Fin 4096) (d : Fin 512) :
    (iblk m c 6 t : Vec Ideal S1x4096x512 .bf16) (ix3 0 k d) = (wholeAt m c).x6 (ix3 (batch t) k d) := by
  blk_simp [iblk]
  refine congrArg (m ((c : Thread nD τ).loc main_arg6)) (?_ : _ = (ix3 (batch t) k d : S2x4096x512.Idx))
  blk_ext [e6, batch]

theorem keys7 (k : Fin 4096) (d : Fin 64) :
    (iblk m c 7 t : Vec Ideal S1x4096x64 .bf16) (ix3 0 k d) = (wholeAt m c).x7 (ix3 (batch t) k d) := by
  blk_simp [iblk]
  refine congrArg (m ((c : Thread nD τ).loc main_arg7)) (?_ : _ = (ix3 (batch t) k d : S2x4096x64.Idx))
  blk_ext [e7, batch]

theorem keys8 (k : Fin 576) (d : Fin 4096) :
    (iblk m c 8 t : Vec Ideal S1x576x4096 .bf16) (ix3 0 k d) = (wholeAt m c).x8 (ix3 (batch t) k d) := by
  blk_simp [iblk]
  refine congrArg (m ((c : Thread nD τ).loc main_arg8)) (?_ : _ = (ix3 (batch t) k d : S2x576x4096.Idx))
  blk_ext [e8, batch]

/-- The point's blocks are the part of the arrays that belongs to its rows. -/
theorem part : PartOf ⟨iblk m c 0 t, iblk m c 1 t, iblk m c 2 t, iblk m c 3 t, iblk m c 4 t, iblk m c 5 t, iblk m c 6 t, iblk m c 7 t,
    iblk m c 8 t, (grid0.coords t 1).val⟩ (wholeAt m c) (batch t) (step t) where
  h0 := rows0 m c t
  h1 := rows1 m c t
  h2 := rows2 m c t
  h3 := rows3 m c t
  h4 := rows4 m c t
  h5 := rows5 m c t
  h6 := keys6 m c t
  h7 := keys7 m c t
  h8 := keys8 m c t
  hm := step_val t

end Blocks

end Cert.KernelIdeal.Parts
-- ==== Proof.Arrays.lean ====
/- The result arrays when the kernel ends, as functions of the argument arrays: the gradients over all the rows. -/
module

public import proofs.«01_k».proof.Proof.Run
public import proofs.«01_k».proof.Proof.Parts
public import Idealize.ShloMosaic.Lib.Claim

@[expose] public section

set_option maxRecDepth 16384

noncomputable section

namespace Cert.KernelIdeal.Parts

open Idealize.ShloMosaic Idealize.ShloMosaic.TcCoe Idealize.ShloMosaic.ValueIdx Idealize.SL.Sem
open Cert.KernelIdeal Cert.KernelIdeal.Gen Cert.KernelIdeal.Tile Cert.KernelIdeal.Hand
open scoped BigOperators

variable (m : (ℓ : Loc nD τ sig) → Buf (Elt Ideal) ℓ) (ρ : Dev nD → PrngReg)

theorem partAt (c : Dev nD) (t : Fin cfg0.N) : PartOf (ptAt m c t) (wholeAt m c) (batch t) (step t) := part m c t

/-- The query gradients of a point's rows. -/
theorem queriesAt_ix (c : Dev nD) (t : Fin cfg0.N) (r : Fin 1536) (d : Fin 576) :
    queriesAt m c t (ix3 0 r d) = (wholeAt m c).queries (ix3 (batch t) (grow (step t) r) d) :=
  (partAt m c t).query_eq r d

/-- Point `k` of batch element `b`. -/
def pointOf (b : Fin 2) (k : Fin 128) : Fin cfg0.N :=
  ⟨128 * b.val + k.val, lt_of_lt_of_eq (by omega : 128 * b.val + k.val < 256) N_0.symm⟩
theorem batch_pointOf (b : Fin 2) (k : Fin 128) : batch (pointOf b k) = b :=
  Fin.ext (by show (128 * b.val + k.val) / 128 = b.val; omega)
theorem step_pointOf (b : Fin 2) (k : Fin 128) : step (pointOf b k) = k :=
  Fin.ext (by show (128 * b.val + k.val) % 128 = k.val; omega)

/-- The gradients of the keys after the last point of a batch element: the sum over all its rows. -/
theorem keySum_last (c : Dev nD) (t : Fin cfg0.N) (h : t.val % 128 = 127) (κ : Fin 4096) (d : Fin 512) :
    keySum m c t (ix3 0 κ d) = (wholeAt m c).keys (ix3 (batch t) κ d) := by
  unfold keySum
  show (∑ k ∈ Finset.range (t.val % 128 + 1), keysNat m c (128 * (t.val / 128) + k) (ix3 0 κ d) : EReal)
    = ∑ R, (wholeAt m c).keyTerm (batch t) κ R d
  rw [h, Finset.sum_range, sum_grow]
  refine Finset.sum_congr rfl fun k _ => ?_
  have e := (partAt m c (pointOf (batch t) k)).keyAdd_eq κ d
  rw [batch_pointOf, step_pointOf] at e
  rw [← e]
  exact congrFun (keysNat_val m c (pointOf (batch t) k)) (ix3 0 κ d)

theorem ropeSum_last (c : Dev nD) (t : Fin cfg0.N) (h : t.val % 128 = 127) (e : Fin 64) (κ : Fin 4096) :
    ropeSum m c t (ix3 0 e κ) = (wholeAt m c).ropes (ix3 (batch t) e κ) := by
  unfold ropeSum
  show (∑ k ∈ Finset.range (t.val % 128 + 1), ropesNat m c (128 * (t.val / 128) + k) (ix3 0 e κ) : EReal)
    = ∑ R, (wholeAt m c).ropeTerm (batch t) κ R e
  rw [h, Finset.sum_range, sum_grow]
  refine Finset.sum_congr rfl fun k _ => ?_
  have e' := (partAt m c (pointOf (batch t) k)).ropeAdd_eq κ e
  rw [batch_pointOf, step_pointOf] at e'
  rw [← e']
  exact congrFun (ropesNat_val m c (pointOf (batch t) k)) (ix3 0 e κ)

/-! ## The arrays -/

theorem queries_array (c : Dev nD) : (dats m 0 c).arrAt 9 cfg0.N = (wholeAt m c).queries := by
  refine (dats m 0 c).arrAt_eq_of_covers 9 _ (by decide +kernel) fun t hf y => ?_
  obtain ⟨r, d, rfl⟩ := idx3_1 y
  blk_simp
  rw [after0_9]
  refine (queriesAt_ix m c t r d).trans (congrArg (wholeAt m c).queries (?_ : (ix3 (batch t) (grow (step t) r) d : S2x196608x576.Idx) = _))
  blk_ext [e9, batch, step, grow]
  show 1536 * (t.val % 128) + r.val = t.val % 128 * 1536 + r.val
  omega

theorem keys_array (c : Dev nD) : (dats m 0 c).arrAt 10 cfg0.N = (wholeAt m c).keys := by
  refine (dats m 0 c).arrAt_eq_of_covers 10 _ (by decide +kernel) fun t hf y => ?_
  obtain ⟨κ, d, rfl⟩ := idx3_1 y
  blk_simp
  rw [after0_10]
  refine (keySum_last m c t ((flush0_10 t).mp hf) κ d).trans (congrArg (wholeAt m c).keys (?_ : (ix3 (batch t) κ d : S2x4096x512.Idx) = _))
  blk_ext [e10, batch]

theorem ropes_array (c : Dev nD) : (dats m 0 c).arrAt 11 cfg0.N = (wholeAt m c).ropes := by
  refine (dats m 0 c).arrAt_eq_of_covers 11 _ (by decide +kernel) fun t hf y => ?_
  obtain ⟨e, κ, rfl⟩ := idx3_1 y
  blk_simp
  rw [after0_11]
  refine (ropeSum_last m c t ((flush0_11 t).mp hf) e κ).trans (congrArg (wholeAt m c).ropes (?_ : (ix3 (batch t) e κ : S2x64x4096.Idx) = _))
  blk_ext [e11, batch]

/-- The kernel ends, its argument arrays unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

/-- The kernel ends with the gradients over all the rows in its result arrays, its argument arrays unchanged. -/
theorem values : θ_run defs (onTc (τ := τ) (main (F := Ideal))) ⟨m, fun _ => 0, ρ⟩ (fun r => ∀ c : Dev nD,
      r.2.mem ((c.tc : Thread nD τ).loc main_v0_0) = (wholeAt m c).queries
      ∧ r.2.mem ((c.tc : Thread nD τ).loc main_v0_1) = (wholeAt m c).keys
      ∧ r.2.mem ((c.tc : Thread nD τ).loc main_v0_2) = (wholeAt m c).ropes
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h.2.out_eq c 9).trans (queries_array m c), (h.2.out_eq c 10).trans (keys_array m c), (h.2.out_eq c 11).trans (ropes_array m c), h.1 c⟩)
    (θ_run_and (frame_of m ρ (dats m) (A_eq m) (run_main m ρ)) (run_main m ρ))

end Cert.KernelIdeal.Parts

end
-- ==== Proof.Plain.lean ====
/- The reference's three results, at an index: the plain sums of `Whole`. -/
module

public import proofs.«01_k».proof.Proof.Whole
public import proofs.«01_k».proof.Proof.Gen.ReferenceIdeal.Value
public import Idealize.ShloMosaic.Lib.Pointwise.Contract
public import Idealize.ShloMosaic.Lib.Pointwise.SelectCore
public import Idealize.ShloMosaic.Lib.Routing.Words

@[expose] public section

noncomputable section

namespace Cert.ReferenceIdeal.Plain

open Idealize.ShloMosaic hiding ix3 ix2 mulf_apply
open Idealize.SL.Sem Idealize.ShloMosaic.ValueIdx
open Cert.ReferenceIdeal Cert.ReferenceIdeal.Gen Cert.ReferenceIdeal.Value
open Cert.KernelIdeal.Tile (Whole lo hi scale zero_apply divW)
open scoped BigOperators

/-! ## The five products -/

section Products
variable (b : Fin 2) (R : Fin 196608) (κ : Fin 4096)

theorem scores_apply (l : FVec Ideal S2x196608x576 .bf16) (r : FVec Ideal S2x4096x576 .bf16) :
    matmul dot_S2x196608x576_S2x4096x576_S2x196608x4096_2_2_1_1_0_0 none l r (constant (F := Ideal) S2x196608x4096 .f32 0x00000000#32) (ix3 b R κ)
      = ∑ d : Fin 576, l (ix3 b R d) * r (ix3 b κ d) := by
  refine (Ideal.matmul_apply₁_of dot_S2x196608x576_S2x4096x576_S2x196608x4096_2_2_1_1_0_0 (a := (2 : Fin 3)) rfl (K := 576) rfl l r _
    (ix3 b R κ) (fun d => ix3 b R d) (fun d => ix3 b κ d) (fun k => ?_) (fun k => ?_)).trans ?_
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl
  · rw [zero_apply, zero_add]

theorem products_apply (l : FVec Ideal S2x196608x512 .bf16) (r : FVec Ideal S2x4096x512 .bf16) :
    matmul dot_S2x196608x512_S2x4096x512_S2x196608x4096_2_2_1_1_0_0 none l r (constant (F := Ideal) S2x196608x4096 .f32 0x00000000#32) (ix3 b R κ)
      = ∑ d : Fin 512, l (ix3 b R d) * r (ix3 b κ d) := by
  refine (Ideal.matmul_apply₁_of dot_S2x196608x512_S2x4096x512_S2x196608x4096_2_2_1_1_0_0 (a := (2 : Fin 3)) rfl (K := 512) rfl l r _
    (ix3 b R κ) (fun d => ix3 b R d) (fun d => ix3 b κ d) (fun k => ?_) (fun k => ?_)).trans ?_
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl
  · rw [zero_apply, zero_add]

theorem queries_apply (l : FVec Ideal S2x196608x4096 .bf16) (r : FVec Ideal S2x576x4096 .bf16) (d : Fin 576) :
    matmul dot_S2x196608x4096_S2x576x4096_S2x196608x576_2_2_1_1_0_0 none l r (constant (F := Ideal) S2x196608x576 .f32 0x00000000#32) (ix3 b R d)
      = ∑ κ : Fin 4096, l (ix3 b R κ) * r (ix3 b d κ) := by
  refine (Ideal.matmul_apply₁_of dot_S2x196608x4096_S2x576x4096_S2x196608x576_2_2_1_1_0_0 (a := (2 : Fin 3)) rfl (K := 4096) rfl l r _
    (ix3 b R d) (fun κ => ix3 b R κ) (fun κ => ix3 b d κ) (fun k => ?_) (fun k => ?_)).trans ?_
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl
  · rw [zero_apply, zero_add]

theorem keys_apply (l : FVec Ideal S2x196608x4096 .bf16) (r : FVec Ideal S2x196608x576 .bf16) (d : Fin 576) :
    matmul dot_S2x196608x4096_S2x196608x576_S2x4096x576_1_1_2_2_0_0 none l r (constant (F := Ideal) S2x4096x576 .f32 0x00000000#32) (ix3 b κ d)
      = ∑ R : Fin 196608, l (ix3 b R κ) * r (ix3 b R d) := by
  refine (Ideal.matmul_apply₁_of dot_S2x196608x4096_S2x196608x576_S2x4096x576_1_1_2_2_0_0 (a := (1 : Fin 3)) rfl (K := 196608) rfl l r _
    (ix3 b κ d) (fun R => ix3 b R κ) (fun R => ix3 b R d) (fun k => ?_) (fun k => ?_)).trans ?_
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl
  · rw [zero_apply, zero_add]

theorem values_apply (l : FVec Ideal S2x196608x4096 .bf16) (r : FVec Ideal S2x196608x512 .bf16) (d : Fin 512) :
    matmul dot_S2x196608x4096_S2x196608x512_S2x4096x512_1_1_2_2_0_0 none l r (constant (F := Ideal) S2x4096x512 .f32 0x00000000#32) (ix3 b κ d)
      = ∑ R : Fin 196608, l (ix3 b R κ) * r (ix3 b R d) := by
  refine (Ideal.matmul_apply₁_of dot_S2x196608x4096_S2x196608x512_S2x4096x512_1_1_2_2_0_0 (a := (1 : Fin 3)) rfl (K := 196608) rfl l r _
    (ix3 b κ d) (fun R => ix3 b R κ) (fun R => ix3 b R d) (fun k => ?_) (fun k => ?_)).trans ?_
  · funext a; match a with
    | ⟨0, _⟩ => rfl
    | ⟨1, _⟩ => rfl
    | ⟨2, _⟩ => rfl
  · funext a; match a with
    | ⟨0, _⟩ => rfl
    | ⟨1, _⟩ => rfl
    | ⟨2, _⟩ => rfl
  · rw [zero_apply, zero_add]

end Products

/-! ## Columns, lanes and the mask -/

/-- A column spread over lanes. -/
theorem spread_apply {n : ℕ} (hn : 1 < n) {α : Type} (v : S2x196608x1.Idx → α) (h : S2x196608x1.Broadcasts (⟨3, ![2, 196608, n]⟩ : Shape))
    (b : Fin 2) (R : Fin 196608) (d : Fin n) : broadcastTo (⟨3, ![2, 196608, n]⟩ : Shape) v h (ix3 b R d) = v (ix3 b R 0) :=
  broadcastTo_apply v h _ _ fun a => by
    match a with
    | ⟨0, _⟩ => rfl
    | ⟨1, _⟩ => rfl
    | ⟨2, _⟩ => rfl

/-- A matrix as a stack of columns. -/
theorem cast_column {a n : ℕ} {α : Type} (x : (⟨2, ![a, n]⟩ : Shape).Idx → α) (h : (⟨2, ![a, n]⟩ : Shape).ShapeCasts ⟨3, ![a, n, 1]⟩)
    (i : Fin a) (j : Fin n) : shapeCast ⟨3, ![a, n, 1]⟩ x h (ix3 i j 0) = x (ix2 i j) :=
  shapeCast_apply x h _ _ (by
    rw [Shape.rowMajor_val_three, Shape.rowMajor_val_two]
    show i.val * n + j.val = (i.val * n + j.val) * 1 + 0
    omega)

theorem column_apply (v : Vec Ideal S2x1x196608 .f32) (b : Fin 2) (R : Fin 196608) :
    transpose S2x196608x1 [0, 2, 1] v transposes_S2x1x196608_p0_2_1_S2x196608x1 (ix3 b R 0) = v (ix3 b 0 R) :=
  transpose_ix3_021_apply v _ b R 0

/-- The keys with their rotary lanes. -/
theorem full_apply (W : Whole) (b : Fin 2) (κ : Fin 4096) (d : Fin 576) : k0_pay10 W.x6 W.x7 (ix3 b κ d) = W.full b κ d := by
  unfold k0_pay10 Whole.full
  refine (concatenate_pair_apply (2 : Fin 3) W.x6 W.x7 _ (ix3 b κ d)).trans ?_
  by_cases h : d.val < 512
  · rw [dif_pos h]
    refine (dif_pos h).trans (congrArg W.x6 ?_)
    funext a; match a with
    | ⟨0, _⟩ => rfl
    | ⟨1, _⟩ => rfl
    | ⟨2, _⟩ => rfl
  · rw [dif_neg h]
    refine (dif_neg h).trans (congrArg W.x7 ?_)
    funext a; match a with
    | ⟨0, _⟩ => rfl
    | ⟨1, _⟩ => rfl
    | ⟨2, _⟩ => rfl

/-- The division of a row number by 48, rounded down. -/
theorem divW_of_lt (n : ℕ) (hn : n < 2 ^ 31) : divW (BitVec.ofNat 32 n) = BitVec.ofNat 32 (n / 48) := by
  have hd : IntOp.divsi .vector (BitVec.ofNat 32 n) 48#32 = BitVec.ofNat 32 (n / 48) :=
    Routing.divsi_word .vector (a := n) (b := 48) hn (by omega) (by omega)
  rcases Nat.eq_zero_or_pos n with h0 | h0
  · subst h0; decide +kernel
  · have h1 : IntOp.cmpi .sgt (BitVec.ofNat 32 n) 0#32 = 1#1 :=
      (WordCmp.cmpi_sgt_ofNat_eq_one_iff (w := 32) (a := n) (b := 0) hn (by omega)).mpr h0
    have h2 : IntOp.cmpi .slt (BitVec.ofNat 32 n) 0#32 = 0#1 :=
      (WordCmp.cmpi_slt_ofNat_eq_zero_iff (w := 32) (a := n) (b := 0) hn (by omega)).mpr (by omega)
    unfold divW
    rw [h1, h2, hd]
    have hc : IntOp.cmpi .ne (IntOp.subi ((1#1 : BitVec 1).setWidth 32) ((0#1 : BitVec 1).setWidth 32))
        (Scalar.subi (Scalar.extui (Scalar.cmpi .sgt 48#32 0#32)) (Scalar.extui (Scalar.cmpi .slt 48#32 0#32))) = 0#1 := by decide +kernel
    rw [hc]
    refine WordCmp.select_of_eq_zero ?_ _ _
    exact BitVec.zero_and

/-! ## The probabilities and the gradient of the scores -/

section Rows
variable (W : Whole) (b : Fin 2) (R : Fin 196608) (κ : Fin 4096)

theorem prob_apply : k0_pay14 (k0_pay5 W.x0) (k0_pay7 W.x3) (k0_pay8 W.x4) (k0_pay10 W.x6 W.x7) (ix3 b R κ) = W.prob b κ R := by
  have h1 : iota .tc S2x196608x4096 32 [1] iota_S2x196608x4096_d1_w32 (ix3 b R κ) = BitVec.ofNat 32 R.val :=
    congrArg (BitVec.ofNat 32) (by show 0 * 196608 + R.val = R.val; omega)
  have h2 : iota .tc S2x196608x4096 32 [2] iota_S2x196608x4096_d2_w32 (ix3 b R κ) = BitVec.ofNat 32 κ.val :=
    congrArg (BitVec.ofNat 32) (by show 0 * 4096 + κ.val = κ.val; omega)
  have hm : IntOp.cmpi .sle (BitVec.ofNat 32 κ.val) (divW (BitVec.ofNat 32 R.val)) = BitVec.ofBool (decide (κ.val ≤ R.val / 48)) := by
    rw [divW_of_lt R.val (by omega)]
    exact WordCmp.cmpi_sle_ofNat (by omega) (by have := R.isLt; omega)
  have hs : matmul dot_S2x196608x576_S2x4096x576_S2x196608x4096_2_2_1_1_0_0 none (k0_pay5 W.x0) (k0_pay10 W.x6 W.x7)
      (constant (F := Ideal) S2x196608x4096 .f32 0x00000000#32) (ix3 b R κ) = ∑ d : Fin 576, W.x0 (ix3 b R d) * W.full b κ d := by
    rw [scores_apply]
    exact Finset.sum_congr rfl fun d _ => by rw [full_apply]; rfl
  have hq : broadcastTo S2x196608x4096 (k0_pay7 (F := Ideal) W.x3) broadcasts_S2x196608x1_S2x196608x4096 (ix3 b R κ) = W.x3 (ix3 b 0 R) :=
    (spread_apply (by omega) _ _ b R κ).trans (column_apply W.x3 b R)
  have hl : broadcastTo S2x196608x4096 (k0_pay8 (F := Ideal) W.x4) broadcasts_S2x196608x1_S2x196608x4096 (ix3 b R κ) = W.x4 (ix3 b 0 R) :=
    (spread_apply (by omega) _ _ b R κ).trans (column_apply W.x4 b R)
  have key : k0_pay14 (k0_pay5 W.x0) (k0_pay7 W.x3) (k0_pay8 W.x4) (k0_pay10 W.x6 W.x7) (ix3 b R κ)
      = Scalar.select (IntOp.cmpi .sle (iota .tc S2x196608x4096 32 [2] iota_S2x196608x4096_d2_w32 (ix3 b R κ))
          (divW (iota .tc S2x196608x4096 32 [1] iota_S2x196608x4096_d1_w32 (ix3 b R κ))))
        (Ideal.exp (scale * (matmul dot_S2x196608x576_S2x4096x576_S2x196608x4096_2_2_1_1_0_0 none (k0_pay5 W.x0) (k0_pay10 W.x6 W.x7)
            (constant (F := Ideal) S2x196608x4096 .f32 0x00000000#32) (ix3 b R κ)
          * broadcastTo S2x196608x4096 (k0_pay7 (F := Ideal) W.x3) broadcasts_S2x196608x1_S2x196608x4096 (ix3 b R κ))
          - broadcastTo S2x196608x4096 (k0_pay8 (F := Ideal) W.x4) broadcasts_S2x196608x1_S2x196608x4096 (ix3 b R κ)))
        (Scalar.ofBits (F := Ideal) .f32 0x00000000#32) := rfl
  rw [key, h1, h2, hm, hs, hq, hl]
  unfold Whole.prob
  by_cases h : κ.val ≤ R.val / 48
  · rw [if_pos h, decide_eq_true h]; rfl
  · rw [if_neg h, decide_eq_false h]; exact Ideal.ofBits_zero_f32

theorem rowSum_apply : k0_pay13 W.x2 W.x5 W.x1 (ix3 b R 0) = W.rowSum b R := by
  unfold k0_pay13 Whole.rowSum
  refine (cast_column (a := 2) (n := 196608) _ _ b R).trans ?_
  refine (Ideal.multiReduction_add_single _ _ _ _ _ _).trans ?_
  refine Finset.sum_congr rfl fun (d : Fin 512) _ => ?_
  have hl : reduces_S2x196608x512_S2x196608.lift (ix2 b R) d = ix3 b R d := by
    funext a; match a with
    | ⟨0, _⟩ => rfl
    | ⟨1, _⟩ => rfl
    | ⟨2, _⟩ => rfl
  have hq : broadcastTo S2x196608x512 (k0_pay9 (F := Ideal) W.x5) broadcasts_S2x196608x1_S2x196608x512 (ix3 b R d) = W.x5 (ix3 b 0 R) :=
    (spread_apply (by omega) _ _ b R d).trans (column_apply W.x5 b R)
  rw [hl, mulf_apply, mulf_apply, hq]
  rfl

/-- The gradient of the scores. -/
abbrev dscores : FVec Ideal S2x196608x4096 .bf16 :=
  k0_pay15 (k0_pay5 W.x0) (k0_pay6 W.x1) (k0_pay7 W.x3) (k0_pay8 W.x4) (k0_pay9 W.x5) W.x6 (k0_pay10 W.x6 W.x7) (k0_pay13 W.x2 W.x5 W.x1)

theorem dscore_apply : dscores W (ix3 b R κ) = W.dscore b κ R := by
  have hp : matmul dot_S2x196608x512_S2x4096x512_S2x196608x4096_2_2_1_1_0_0 none (k0_pay6 W.x1) W.x6
      (constant (F := Ideal) S2x196608x4096 .f32 0x00000000#32) (ix3 b R κ) = ∑ d : Fin 512, W.x1 (ix3 b R d) * W.x6 (ix3 b κ d) :=
    products_apply b R κ _ _
  have hq : broadcastTo S2x196608x4096 (k0_pay9 (F := Ideal) W.x5) broadcasts_S2x196608x1_S2x196608x4096 (ix3 b R κ) = W.x5 (ix3 b 0 R) :=
    (spread_apply (by omega) _ _ b R κ).trans (column_apply W.x5 b R)
  have hr : broadcastTo S2x196608x4096 (k0_pay13 W.x2 W.x5 W.x1) broadcasts_S2x196608x1_S2x196608x4096 (ix3 b R κ) = W.rowSum b R :=
    (spread_apply (by omega) _ _ b R κ).trans (rowSum_apply W b R)
  have key : dscores W (ix3 b R κ)
      = scale * (k0_pay14 (k0_pay5 W.x0) (k0_pay7 W.x3) (k0_pay8 W.x4) (k0_pay10 W.x6 W.x7) (ix3 b R κ)
        * (matmul dot_S2x196608x512_S2x4096x512_S2x196608x4096_2_2_1_1_0_0 none (k0_pay6 W.x1) W.x6
            (constant (F := Ideal) S2x196608x4096 .f32 0x00000000#32) (ix3 b R κ)
          * broadcastTo S2x196608x4096 (k0_pay9 (F := Ideal) W.x5) broadcasts_S2x196608x1_S2x196608x4096 (ix3 b R κ)
          - broadcastTo S2x196608x4096 (k0_pay13 W.x2 W.x5 W.x1) broadcasts_S2x196608x1_S2x196608x4096 (ix3 b R κ))) := rfl
  rw [key, prob_apply, hp, hq, hr]
  rfl

end Rows

/-! ## The three results -/

section Results
variable (W : Whole) (b : Fin 2)

theorem dquery_apply (R : Fin 196608) (d : Fin 576) :
    k0_pay1 (k0_pay16 (k0_pay5 W.x0) (k0_pay6 W.x1) (k0_pay7 W.x3) (k0_pay8 W.x4) (k0_pay9 W.x5) W.x6 W.x8 (k0_pay10 W.x6 W.x7)
      (k0_pay13 W.x2 W.x5 W.x1)) (ix3 b R d) = W.dquery b R d := by
  refine (queries_apply b R (dscores W) W.x8 d).trans ?_
  exact Finset.sum_congr rfl fun κ _ => by rw [dscore_apply]

theorem dkey_apply (κ : Fin 4096) (d : Fin 576) : k0_pay2 (k0_pay11 W.x0 W.x3) (dscores W) (ix3 b κ d) = W.dkey b κ d := by
  refine (keys_apply b κ (dscores W) (k0_pay11 W.x0 W.x3) d).trans ?_
  refine Finset.sum_congr rfl fun R _ => ?_
  have hq : broadcastTo S2x196608x576 (truncf (F := Ideal) .bf16 (k0_pay7 W.x3) bitsLt_bf16_f32) broadcasts_S2x196608x1_S2x196608x576 (ix3 b R d)
      = W.x3 (ix3 b 0 R) := (spread_apply (by omega) _ _ b R d).trans (column_apply W.x3 b R)
  have key : k0_pay11 W.x0 W.x3 (ix3 b R d) = W.x0 (ix3 b R d)
      * broadcastTo S2x196608x576 (truncf (F := Ideal) .bf16 (k0_pay7 W.x3) bitsLt_bf16_f32) broadcasts_S2x196608x1_S2x196608x576 (ix3 b R d) := rfl
  rw [dscore_apply, key, hq]

theorem dvalue_apply (κ : Fin 4096) (d : Fin 512) :
    matmul dot_S2x196608x4096_S2x196608x512_S2x4096x512_1_1_2_2_0_0 none
      (truncf (F := Ideal) .bf16 (k0_pay14 (k0_pay5 W.x0) (k0_pay7 W.x3) (k0_pay8 W.x4) (k0_pay10 W.x6 W.x7)) bitsLt_bf16_f32)
      (k0_pay12 W.x1 W.x5) (constant (F := Ideal) S2x4096x512 .f32 0x00000000#32) (ix3 b κ d) = W.dvalue b κ d := by
  refine (values_apply b κ _ (k0_pay12 W.x1 W.x5) d).trans ?_
  refine Finset.sum_congr rfl fun R _ => ?_
  have hq : broadcastTo S2x196608x512 (truncf (F := Ideal) .bf16 (k0_pay9 W.x5) bitsLt_bf16_f32) broadcasts_S2x196608x1_S2x196608x512 (ix3 b R d)
      = W.x5 (ix3 b 0 R) := (spread_apply (by omega) _ _ b R d).trans (column_apply W.x5 b R)
  have key : k0_pay12 W.x1 W.x5 (ix3 b R d) = W.x1 (ix3 b R d)
      * broadcastTo S2x196608x512 (truncf (F := Ideal) .bf16 (k0_pay9 W.x5) bitsLt_bf16_f32) broadcasts_S2x196608x1_S2x196608x512 (ix3 b R d) := rfl
  rw [key, hq]
  exact congrArg (· * _) (prob_apply W b R κ)

theorem dc_apply (κ : Fin 4096) (d : Fin 512) :
    k0_pay3 (k0_pay11 W.x0 W.x3) (k0_pay12 W.x1 W.x5)
      (k0_pay14 (k0_pay5 W.x0) (k0_pay7 W.x3) (k0_pay8 W.x4) (k0_pay10 W.x6 W.x7)) (dscores W) (ix3 b κ d)
      = W.dkey b κ (lo d) + W.dvalue b κ d := by
  refine congrArg₂ (· + ·) ?_ (dvalue_apply W b κ d)
  refine (extractStridedSlice_apply _ _ slices_S2x4096x576_o0_0_0_S2x4096x512 (ix3 b κ d) (ix3 b κ (lo d)) fun a => ?_).trans (dkey_apply W b κ (lo d))
  match a with
  | ⟨0, _⟩ => exact (Nat.zero_add _).symm
  | ⟨1, _⟩ => exact (Nat.zero_add _).symm
  | ⟨2, _⟩ => exact (Nat.zero_add _).symm

theorem dkr_apply (κ : Fin 4096) (e : Fin 64) :
    k0_pay4 (k0_pay11 W.x0 W.x3) (dscores W) (ix3 b e κ) = W.dkey b κ (hi e) := by
  unfold k0_pay4
  refine (transpose_ix3_021_apply (m := 2) (a := 4096) (b := 64) _ transposes_S2x4096x64_p0_2_1_S2x64x4096 b e κ).trans ?_
  refine (extractStridedSlice_apply _ _ slices_S2x4096x576_o0_0_512_S2x4096x64 (ix3 b κ e) (ix3 b κ (hi e)) fun a => ?_).trans (dkey_apply W b κ (hi e))
  match a with
  | ⟨0, _⟩ => exact (Nat.zero_add _).symm
  | ⟨1, _⟩ => exact (Nat.zero_add _).symm
  | ⟨2, _⟩ => rfl

/-- A shape's whole buffer, loaded. -/
theorem zero3 : (![0, 0, 0] : Fin 3 → ℕ) = fun _ => 0 := funext fun a => by fin_cases a <;> rfl

theorem ld0 (x : Vec Ideal S2x196608x576 .fp8e4m3) : View.ld x r0_0 = x := View.ld_unit_zero (S := S2x196608x576) zero3 _ x
theorem ld1 (x : Vec Ideal S2x196608x512 .fp8e5m2) : View.ld x r0_1 = x := View.ld_unit_zero (S := S2x196608x512) zero3 _ x
theorem ld2 (x : Vec Ideal S2x196608x512 .bf16) : View.ld x r0_1 = x := View.ld_unit_zero (S := S2x196608x512) zero3 _ x
theorem ld3 (x : Vec Ideal S2x1x196608 .f32) : View.ld x r0_2 = x := View.ld_unit_zero (S := S2x1x196608) zero3 _ x
theorem ld6 (x : Vec Ideal S2x4096x512 .bf16) : View.ld x r0_3 = x := View.ld_unit_zero (S := S2x4096x512) zero3 _ x
theorem ld7 (x : Vec Ideal S2x4096x64 .bf16) : View.ld x r0_4 = x := View.ld_unit_zero (S := S2x4096x64) zero3 _ x

/-- The scales of the output gradients are nonnegative and finite. -/
def Finite : Prop := ∀ b R, (0 : EReal) ≤ W.x5 (ix3 b 0 R) ∧ (W.x5 (ix3 b 0 R) : EReal) ≠ ⊤

theorem G9_eq (h : Finite W) : G9 W.x0 W.x1 W.x2 W.x3 W.x4 W.x5 W.x6 W.x7 W.x8 = W.queries := by
  funext y
  obtain ⟨b, R, d, rfl⟩ : ∃ b R d, y = ix3 b R d := ⟨y 0, y 1, y 2, funext fun k => by
    match k with
    | ⟨0, _⟩ => rfl
    | ⟨1, _⟩ => rfl
    | ⟨2, _⟩ => rfl⟩
  unfold G9 k0_pay24 k0_pay22 k0_pay21 k0_pay20 k0_pay19 k0_pay18 k0_pay17
  rw [ld0, ld1, ld2, ld3, ld3, ld3, ld6, ld7, dquery_apply, W.queries_eq b R h]

theorem G10_eq (h : Finite W) : G10 W.x0 W.x1 W.x2 W.x3 W.x4 W.x5 W.x6 W.x7 W.x8 = W.keys := by
  funext y
  obtain ⟨b, κ, d, rfl⟩ : ∃ b κ d, y = ix3 b κ d := ⟨y 0, y 1, y 2, funext fun k => by
    match k with
    | ⟨0, _⟩ => rfl
    | ⟨1, _⟩ => rfl
    | ⟨2, _⟩ => rfl⟩
  unfold G10 k0_pay25 k0_pay24 k0_pay23 k0_pay22 k0_pay21 k0_pay20 k0_pay19 k0_pay18 k0_pay17
  rw [ld0, ld1, ld2, ld3, ld3, ld3, ld6, ld7, dc_apply, W.keys_eq b κ h]

theorem G11_eq (h : Finite W) : G11 W.x0 W.x1 W.x2 W.x3 W.x4 W.x5 W.x6 W.x7 W.x8 = W.ropes := by
  funext y
  obtain ⟨b, e, κ, rfl⟩ : ∃ b e κ, y = ix3 b e κ := ⟨y 0, y 1, y 2, funext fun k => by
    match k with
    | ⟨0, _⟩ => rfl
    | ⟨1, _⟩ => rfl
    | ⟨2, _⟩ => rfl⟩
  unfold G11 k0_pay25 k0_pay24 k0_pay23 k0_pay22 k0_pay21 k0_pay20 k0_pay19 k0_pay18 k0_pay17
  rw [ld0, ld1, ld2, ld3, ld3, ld3, ld6, ld7, dkr_apply, W.ropes_eq b κ h]

end Results

end Cert.ReferenceIdeal.Plain
-- ==== Proof.Scale.lean ====
/- What the precondition says: every scale of the output gradient is nonnegative and finite. -/
module

public import proofs.«01_k».proof.Pre_scale_is_finite
public import Idealize.ShloMosaic.PureOps.Reduce
public import Idealize.ShloMosaic.PureOps.Ideal.Laws
public import Idealize.ShloMosaic.Lib.ValueIdx
public import Idealize.ShloMosaic.Lib.IdealHost

@[expose] public section

noncomputable section

namespace Cert.Pre_scale_is_finite

open Idealize.ShloMosaic Idealize.ShloMosaic.ValueIdx

theorem facts : Facts := by
  constructor
  · exact ⟨fun a => a.elim0, fun a => a.elim0⟩
  · decide
  · decide

theorem andi_one (a b : BitVec 1) : IntOp.andi a b = 1#1 ↔ a = 1#1 ∧ b = 1#1 := by
  revert a b; decide

/-- A conjunction over a whole array that is true is true of every element. -/
theorem of_reduce_and {s t u : Shape} {axes : List (Fin s.rank)} (x : IVec s 1) (init : IVec u 1) (h : s.ReducesTo axes t) (hu : 0 < u.numel)
    (j : t.Idx) (e : Host.reduce IntOp.andi x init h hu j = 1#1) (i : s.Idx) (hi : h.drop i = j) : x i = 1#1 := by
  haveI : Std.Commutative (IntOp.andi (w := 1)) := ⟨by decide⟩
  haveI : Std.Associative (IntOp.andi (w := 1)) := ⟨by decide⟩
  rw [Host.reduce_eq_fold] at e
  have := (Finset.fold_op_rel_iff_and (op := IntOp.andi (w := 1)) (r := fun _ z => z = 1#1) (c := 1#1) (fun {_ y z} => andi_one y z)).mp e
  exact this.2 i (by simp [hi])

theorem scale_ok [Facts] (x0 : FVec Ideal S2x196608x576 .fp8e4m3) (x1 : FVec Ideal S2x196608x512 .fp8e5m2) (x2 : FVec Ideal S2x196608x512 .bf16)
    (x3 x4 x5 : FVec Ideal S2x1x196608 .f32) (x6 : FVec Ideal S2x4096x512 .bf16) (x7 : FVec Ideal S2x4096x64 .bf16) (x8 : FVec Ideal S2x576x4096 .bf16)
    (h : fn (F := Ideal) x0 x1 x2 x3 x4 x5 x6 x7 x8 = fun _ => 1#1) (i : S2x1x196608.Idx) : (0 : EReal) ≤ x5 i ∧ (x5 i : EReal) ≠ ⊤ := by
  have e := congrFun h (fun a => a.elim0)
  unfold fn at e
  have k := of_reduce_and _ _ _ _ _ e i (funext fun a => a.elim0)
  rw [show ∀ (a b : IVec S2x1x196608 1), andi a b i = IntOp.andi (a i) (b i) from fun _ _ => rfl, andi_one] at k
  rw [cmpf_apply, cmpf_apply, broadcastInDim_scalar_apply, broadcastInDim_scalar_apply, Ideal.cmpf_def, Ideal.cmpf_def] at k
  simp [Ideal.cmp, constant] at k
  have bit : ∀ b : Bool, BitVec.ofBool b = 1#1 → b = true := by decide
  exact ⟨of_decide_eq_true (bit _ k.1), ne_top_of_lt (of_decide_eq_true (bit _ k.2))⟩

end Cert.Pre_scale_is_finite

end
-- ==== Proof.Dequant.lean ====
/- Dequantizing the keys: every lane of a key is its code times the scale of the lane's block of 64. What the preparing kernel computes from
   one block of 512 keys, at an index, when the arithmetic is that of the extended reals: it spreads the eight scales of a key over its 512
   lanes by a product with a matrix of zeros and ones, and a sum in which one term is kept is that term. -/
module

public import proofs.«01_k».proof.Proof.Gen.PrepIdeal.Skeleton
public import Idealize.ShloMosaic.Lib.ValueIdx
public import Idealize.ShloMosaic.Lib.ValueIdxCore
public import Idealize.ShloMosaic.Lib.ValueLayout
public import Idealize.ShloMosaic.Lib.MatmulPlain
public import Idealize.ShloMosaic.Lib.Pointwise.Contract

@[expose] public section

noncomputable section

namespace Cert.PrepIdeal.Dequant

open Idealize.ShloMosaic hiding ix3 ix2
open Idealize.SL.Sem Idealize.ShloMosaic.ValueIdx
open Cert.PrepIdeal Cert.PrepIdeal.Gen
open scoped BigOperators

/-- The block of 64 lanes that holds lane `d`. -/
def blockOf (d : Fin 512) : Fin 8 := ⟨d.val / 64, by have := d.isLt; omega⟩

/-! ## The two results -/

/-- The argument arrays: the codes, the scales, the rotary lanes. -/
structure Args where
  codes : Vec Ideal S2x4096x512 .fp8e4m3
  scales : Vec Ideal S2x4096x8 .f32
  ropes : Vec Ideal S2x4096x64 .bf16

namespace Args
variable (A : Args)

/-- Lane `d` of key `κ`. -/
def key (b : Fin 2) (κ : Fin 4096) (d : Fin 512) : EReal := A.codes (ix3 b κ d) * A.scales (ix3 b κ (blockOf d))
/-- Lane `d` of key `κ`, the rotary lanes after the others. -/
def lane (b : Fin 2) (κ : Fin 4096) (d : Fin 576) : EReal :=
  if h : d.val < 512 then A.key b κ ⟨d.val, h⟩ else A.ropes (ix3 b κ ⟨d.val - 512, by have := d.isLt; omega⟩)

/-- The keys. -/
def keys : Vec Ideal S2x4096x512 .bf16 := fun i => A.key (i 0) (i 1) (i 2)
/-- The keys with their rotary lanes, transposed. -/
def keysT : Vec Ideal S2x576x4096 .bf16 := fun i => A.lane (i 0) (i 2) (i 1)

theorem keysT_lo (b : Fin 2) (κ : Fin 4096) (d : Fin 576) (d' : Fin 512) (h : d.val = d'.val) :
    A.keysT (ix3 b d κ) = A.key b κ d' := by
  show A.lane b κ d = _
  unfold lane
  have hlt : d.val < 512 := by have := d'.isLt; omega
  rw [dif_pos hlt]
  exact congrArg (A.key b κ) (Fin.ext h)
theorem keysT_hi (b : Fin 2) (κ : Fin 4096) (d : Fin 576) (e : Fin 64) (h : d.val = 512 + e.val) :
    A.keysT (ix3 b d κ) = A.ropes (ix3 b κ e) := by
  show A.lane b κ d = _
  unfold lane
  have hge : ¬ d.val < 512 := by omega
  rw [dif_neg hge]
  have he : (⟨d.val - 512, by have := d.isLt; omega⟩ : Fin 64) = e := Fin.ext (by show d.val - 512 = e.val; omega)
  rw [he]

end Args

/-! ## The matrix of zeros and ones -/

/-- The kernel's division of a lane number by 64, rounded down. -/
def divW (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem divW_eq : ∀ d : Fin 512, divW (BitVec.ofNat 32 d.val) = BitVec.ofNat 32 (blockOf d).val := by decide +kernel

theorem bit_eq : ∀ a b : Fin 8, IntOp.cmpi .eq (BitVec.ofNat 32 a.val) (BitVec.ofNat 32 b.val) = BitVec.ofBool (decide (b = a)) := by
  decide +kernel

/-- Row `j` of the matrix: one in the lanes of block `j`, zero in the others. -/
def spread : FVec Ideal S8x512 .bf16 := fun i =>
  (((((IntOp.cmpi .eq (divW (iota .tc S8x512 32 [1] iota_S8x512_d1_w32 i)) (iota .tc S8x512 32 [0] iota_S8x512_d0_w32 i)).setWidth 32).toInt : ℤ) : ℝ) : EReal)

theorem spread_apply (j : Fin 8) (d : Fin 512) : spread (ix2 j d) = if j = blockOf d then 1 else 0 := by
  have h0 : iota .tc S8x512 32 [0] iota_S8x512_d0_w32 (ix2 j d) = BitVec.ofNat 32 j.val :=
    congrArg (BitVec.ofNat 32) (by show 0 * 8 + j.val = j.val; omega)
  have h1 : iota .tc S8x512 32 [1] iota_S8x512_d1_w32 (ix2 j d) = BitVec.ofNat 32 d.val :=
    congrArg (BitVec.ofNat 32) (by show 0 * 512 + d.val = d.val; omega)
  unfold spread
  rw [h0, h1, divW_eq, bit_eq]
  by_cases h : j = blockOf d
  · rw [if_pos h, decide_eq_true h]
    simp
  · rw [if_neg h, decide_eq_false h]
    simp

/-! ## One block of keys -/

theorem zero_apply {s : Shape} (i : s.Idx) : constant (F := Ideal) s .f32 0x00000000#32 i = 0 := by
  rw [constant_apply]; exact Ideal.ofBits_zero_f32

/-- The scales of the block's keys without the leading unit axis. -/
def scalesOf (v : Vec Ideal S1x512x8 .f32) : FVec Ideal S512x8 .bf16 :=
  truncf .bf16 (shapeCast S512x8 v shapeCasts_S1x512x8_S512x8) bitsLt_bf16_f32

theorem spreaded_apply (v : Vec Ideal S1x512x8 .f32) (r d : Fin 512) :
    matmul dot_S512x8_S8x512_S512x512_1_0_0_1_n_n none (scalesOf v) spread (constant (F := Ideal) S512x512 .f32 0x00000000#32) (ix2 r d)
      = v (ix3 0 r (blockOf d)) := by
  refine (Ideal.matmul_apply₁_of dot_S512x8_S8x512_S512x512_1_0_0_1_n_n (a := (1 : Fin 2)) rfl (K := 8) rfl (scalesOf v) spread _
    (ix2 r d) (fun j => ix2 r j) (fun j => ix2 j d) (fun k => ?_) (fun k => ?_)).trans ?_
  · funext a; match a with
    | ⟨0, _⟩ => rfl
    | ⟨1, _⟩ => rfl
  · funext a; match a with
    | ⟨0, _⟩ => rfl
    | ⟨1, _⟩ => rfl
  · rw [zero_apply, zero_add]
    refine (Finset.sum_eq_single (blockOf d) (fun j _ h => ?_) (fun h => absurd (Finset.mem_univ _) h)).trans ?_
    · rw [spread_apply, if_neg h]
      exact mul_zero _
    · rw [spread_apply, if_pos rfl]
      refine (mul_one _).trans ?_
      exact shapeCast_1ab_ab_apply v _ r (blockOf d)

/-- The block's keys: codes times scales. -/
theorem block_apply (v : Vec Ideal S1x512x8 .f32) (x : Vec Ideal S1x512x512 .fp8e4m3) (r d : Fin 512) :
    k0_pay4 v x (ix2 r d) = x (ix3 0 r d) * v (ix3 0 r (blockOf d)) := by
  have key : k0_pay4 v x (ix2 r d)
      = shapeCast S512x512 x shapeCasts_S1x512x512_S512x512 (ix2 r d)
        * matmul dot_S512x8_S8x512_S512x512_1_0_0_1_n_n none (scalesOf v) spread (constant (F := Ideal) S512x512 .f32 0x00000000#32) (ix2 r d) := rfl
  rw [key, spreaded_apply]
  exact congrArg (· * v (ix3 0 r (blockOf d))) (shapeCast_1ab_ab_apply x _ r d)

theorem keys_apply (v : FVec Ideal S512x512 .bf16) (r d : Fin 512) : k0_pay1 v (ix3 0 r d) = v (ix2 r d) :=
  shapeCast_ab_1ab_apply v _ 0 r d
theorem keysT_apply (v : FVec Ideal S512x512 .bf16) (d r : Fin 512) : k0_pay2 v (ix3 0 d r) = v (ix2 r d) :=
  (shapeCast_ab_1ab_apply _ _ 0 d r).trans (transpose_ix2_apply v _ d r)
theorem ropesT_apply (v : Vec Ideal S1x512x64 .bf16) (e : Fin 64) (r : Fin 512) : k0_pay3 v (ix3 0 e r) = v (ix3 0 r e) := by
  unfold k0_pay3
  refine (shapeCast_ab_1ab_apply (a := 64) (b := 512) _ _ 0 e r).trans ?_
  refine (transpose_ix2_apply (a := 512) (b := 64) _ _ e r).trans ?_
  exact shapeCast_1ab_ab_apply v _ r e

end Cert.PrepIdeal.Dequant

end
-- ==== Proof.DequantArrays.lean ====
/- The preparing kernel's result arrays when it ends: the keys, and the keys with their rotary lanes, transposed. -/
module

public import proofs.«01_k».proof.Proof.Dequant
public import proofs.«01_k».proof.Proof.Gen.PrepIdeal.Value
public import Idealize.ShloMosaic.Lib.Pipeline.ValueKit
public import Idealize.ShloMosaic.Lib.Claim

@[expose] public section

set_option maxRecDepth 16384

noncomputable section

namespace Cert.PrepIdeal.Dequant

open Idealize.ShloMosaic hiding ix3 ix2 eq_ix3
open Idealize.ShloMosaic.TcCoe Idealize.ShloMosaic.ValueIdx Idealize.SL.Sem
open Cert.PrepIdeal Cert.PrepIdeal.Gen

variable (m : (ℓ : Loc nD τ sig) → Buf (Elt Ideal) ℓ) (ρ : Dev nD → PrngReg)

/-- The argument arrays of core `c`. -/
def argsAt (c : Dev nD) : Args :=
  ⟨m ((c : Thread nD τ).loc main_arg0), m ((c : Thread nD τ).loc main_arg1), m ((c : Thread nD τ).loc main_arg2)⟩

/-! ## The grid: point `t` is keys `512 * (t % 8) …` of batch element `t / 8` -/

theorem lt_points (t : Fin cfg0.N) : t.val < 16 := lt_of_lt_of_eq t.isLt N_0

def batch (t : Fin cfg0.N) : Fin 2 := ⟨t.val / 8, by have := lt_points t; omega⟩
def keyNo (t : Fin cfg0.N) (r : Fin 512) : Fin 4096 := ⟨t.val % 8 * 512 + r.val, by have := r.isLt; omega⟩

theorem e0 : ∀ t : Fin cfg0.N, win0_0.index t = ![t.val / 8, t.val % 8, 0] := (by decide +kernel : ∀ t : Fin grid0.N, _)
theorem e1 : ∀ t : Fin cfg0.N, win0_1.index t = ![t.val / 8, t.val % 8, 0] := (by decide +kernel : ∀ t : Fin grid0.N, _)
theorem e2 : ∀ t : Fin cfg0.N, win0_2.index t = ![t.val / 8, t.val % 8, 0] := (by decide +kernel : ∀ t : Fin grid0.N, _)
theorem e3 : ∀ t : Fin cfg0.N, win0_3.index t = ![t.val / 8, t.val % 8, 0] := (by decide +kernel : ∀ t : Fin grid0.N, _)
theorem e4 : ∀ t : Fin cfg0.N, win0_4.index t = ![t.val / 8, 0, t.val % 8] := (by decide +kernel : ∀ t : Fin grid0.N, _)

section Blocks
variable (c : Dev nD) (t : Fin cfg0.N)

theorem codes_block (r d : Fin 512) :
    (iblk m c 0 t : Vec Ideal S1x512x512 .fp8e4m3) (ix3 0 r d) = (argsAt m c).codes (ix3 (batch t) (keyNo t r) d) := by
  blk_simp [iblk]
  refine congrArg (m ((c : Thread nD τ).loc main_arg0)) (?_ : _ = (ix3 (batch t) (keyNo t r) d : S2x4096x512.Idx))
  blk_ext [e0, batch, keyNo]

theorem scales_block (r : Fin 512) (j : Fin 8) :
    (iblk m c 1 t : Vec Ideal S1x512x8 .f32) (ix3 0 r j) = (argsAt m c).scales (ix3 (batch t) (keyNo t r) j) := by
  blk_simp [iblk]
  refine congrArg (m ((c : Thread nD τ).loc main_arg1)) (?_ : _ = (ix3 (batch t) (keyNo t r) j : S2x4096x8.Idx))
  blk_ext [e1, batch, keyNo]

theorem ropes_block (r : Fin 512) (e : Fin 64) :
    (iblk m c 2 t : Vec Ideal S1x512x64 .bf16) (ix3 0 r e) = (argsAt m c).ropes (ix3 (batch t) (keyNo t r) e) := by
  blk_simp [iblk]
  refine congrArg (m ((c : Thread nD τ).loc main_arg2)) (?_ : _ = (ix3 (batch t) (keyNo t r) e : S2x4096x64.Idx))
  blk_ext [e2, batch, keyNo]

/-- The keys of point `t`. -/
theorem block_key (r d : Fin 512) :
    k0_pay4 (F := Ideal) (iblk m c 1 t) (iblk m c 0 t) (ix2 r d) = (argsAt m c).key (batch t) (keyNo t r) d := by
  refine (block_apply (iblk m c 1 t) (iblk m c 0 t) r d).trans ?_
  exact congrArg₂ (fun x y : EReal => x * y) (codes_block m c t r d) (scales_block m c t r (blockOf d))

end Blocks

/-! ## The arrays -/

theorem idx3_1 {a b : ℕ} (y : (⟨3, ![1, a, b]⟩ : Shape).Idx) : ∃ (i : Fin a) (j : Fin b), y = ix3 0 i j :=
  ⟨y 1, y 2, (eq_ix3 y).trans (congrArg (fun u : Fin 1 => ix3 u (y 1) (y 2)) (Subsingleton.elim _ _))⟩

theorem keys_array (c : Dev nD) : (dats m 0 c).arrAt 3 cfg0.N = (argsAt m c).keys := by
  refine (dats m 0 c).arrAt_eq_of_covers 3 _ (by decide +kernel) fun t hf y => ?_
  obtain ⟨r, d, rfl⟩ := idx3_1 y
  blk_simp
  rw [after0_3]
  refine Eq.trans ?_ (congrArg (argsAt m c).keys (?_ : (ix3 (batch t) (keyNo t r) d : S2x4096x512.Idx) = _))
  · unfold outsAt0
    frame_out
    exact (keys_apply _ r d).trans (block_key m c t r d)
  · blk_ext [e3, batch, keyNo]

theorem keysT_array (c : Dev nD) : (dats m 0 c).arrAt 4 cfg0.N = (argsAt m c).keysT := by
  refine (dats m 0 c).arrAt_eq_of_covers 4 _ (by decide +kernel) fun t hf y => ?_
  obtain ⟨d, r, rfl⟩ := idx3_1 y
  blk_simp
  rw [after0_4]
  refine Eq.trans ?_ (congrArg (argsAt m c).keysT (?_ : (ix3 (batch t) d (keyNo t r) : S2x576x4096.Idx) = _))
  · unfold outsAt0
    frame_out
    canon_tiles x h using View.cover_of_tiledBy _ ![1, 64, 512] (by sl_kernel_rfl) _
    · obtain ⟨e, r', rfl⟩ := idx3_1 x
      obtain rfl : r = r' := Fin.ext h2
      exact (ropesT_apply _ e r).trans ((ropes_block m c t r e).trans ((argsAt m c).keysT_hi _ _ d e h1).symm)
    · obtain ⟨d', r', rfl⟩ := idx3_1 x
      obtain rfl : r = r' := Fin.ext h2
      exact (keysT_apply _ d' r).trans ((block_key m c t r d').trans ((argsAt m c).keysT_lo _ _ d d' h1).symm)
  · blk_ext [e4, batch, keyNo]

/-- The preparing kernel ends with the keys and the transposed keys in its result arrays, its argument arrays unchanged. -/
theorem values : θ_run defs (onTc (τ := τ) (main (F := Ideal))) ⟨m, fun _ => 0, ρ⟩ (fun r => ∀ c : Dev nD,
      r.2.mem ((c.tc : Thread nD τ).loc main_v0_0) = (argsAt m c).keys
      ∧ r.2.mem ((c.tc : Thread nD τ).loc main_v0_1) = (argsAt m c).keysT
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨r0, r1, rest⟩ := h c
    exact ⟨r0.trans (keys_array m c), r1.trans (keysT_array m c), rest⟩) (Cert.PrepIdeal.Value.run_blocks m ρ)

end Cert.PrepIdeal.Dequant

end
-- ==== Proof.DequantPlain.lean ====
/- The reference's keys, at an index: code times the scale of the lane's block, and the rotary lanes after them. -/
module

public import proofs.«01_k».proof.Proof.Dequant
public import proofs.«01_k».proof.Proof.Gen.KeysIdeal.Value
public import Idealize.ShloMosaic.Lib.Pointwise.Contract
public import Idealize.ShloMosaic.Lib.Pointwise.SelectCore

@[expose] public section

set_option maxRecDepth 8192

noncomputable section

namespace Cert.KeysIdeal.Plain

open Idealize.ShloMosaic hiding ix4 ix3 ix2 eq_ix3
open Idealize.SL.Sem Idealize.ShloMosaic.ValueIdx
open Cert.KeysIdeal Cert.KeysIdeal.Gen Cert.KeysIdeal.Value
open Cert.PrepIdeal.Dequant (Args blockOf)

variable (A : Args) (b : Fin 2) (κ : Fin 4096)

/-- The lane's number within its block. -/
def inBlock (d : Fin 512) : Fin 64 := ⟨d.val % 64, Nat.mod_lt _ (by decide)⟩

/-- 512 lanes as eight blocks of 64, and back. -/
theorem split_apply (v : FVec Ideal S2x4096x512 .bf16) (d : Fin 512) :
    shapeCast S2x4096x8x64 v shapeCasts_S2x4096x512_S2x4096x8x64 (ix4 b κ (blockOf d) (inBlock d)) = v (ix3 b κ d) :=
  shapeCast_apply v _ _ _ (by
    rw [Shape.rowMajor_val_four, Shape.rowMajor_val_three]
    show (b.val * 4096 + κ.val) * 512 + d.val = ((b.val * 4096 + κ.val) * 8 + d.val / 64) * 64 + d.val % 64
    omega)
theorem join_apply (v : FVec Ideal S2x4096x8x64 .bf16) (d : Fin 512) :
    shapeCast S2x4096x512 v shapeCasts_S2x4096x8x64_S2x4096x512 (ix3 b κ d) = v (ix4 b κ (blockOf d) (inBlock d)) :=
  shapeCast_apply v _ _ _ (by
    rw [Shape.rowMajor_val_four, Shape.rowMajor_val_three]
    show ((b.val * 4096 + κ.val) * 8 + d.val / 64) * 64 + d.val % 64 = (b.val * 4096 + κ.val) * 512 + d.val
    omega)

/-- A key's scales, each over the lanes of its block. -/
theorem scales_apply (v : FVec Ideal S2x4096x8 .bf16) (j : Fin 8) (l : Fin 64) :
    broadcastTo S2x4096x8x64 (shapeCast S2x4096x8x1 v shapeCasts_S2x4096x8_S2x4096x8x1) broadcasts_S2x4096x8x1_S2x4096x8x64 (ix4 b κ j l)
      = v (ix3 b κ j) := by
  refine (broadcastTo_apply _ _ (ix4 b κ j l) (ix4 b κ j (0 : Fin 1)) fun a => ?_).trans ?_
  · match a with
    | ⟨0, _⟩ => rfl
    | ⟨1, _⟩ => rfl
    | ⟨2, _⟩ => rfl
    | ⟨3, _⟩ => rfl
  · exact shapeCast_apply v _ _ _ (by
      rw [Shape.rowMajor_val_four, Shape.rowMajor_val_three]
      show (b.val * 4096 + κ.val) * 8 + j.val = ((b.val * 4096 + κ.val) * 8 + j.val) * 1 + 0
      omega)

theorem key_apply (d : Fin 512) : k0_pay1 A.codes A.scales (ix3 b κ d) = A.key b κ d := by
  unfold k0_pay1
  refine (join_apply b κ _ d).trans ?_
  exact congrArg₂ (fun x y : EReal => x * y) (split_apply b κ _ d) (scales_apply b κ _ (blockOf d) (inBlock d))

theorem lane_apply (d : Fin 576) : k0_pay2 A.codes A.scales A.ropes (ix3 b d κ) = A.lane b κ d := by
  unfold k0_pay2
  refine (transpose_ix3_021_apply (m := 2) (a := 4096) (b := 576) _ transposes_S2x4096x576_p0_2_1_S2x576x4096 b d κ).trans ?_
  refine (concatenate_pair_apply (2 : Fin 3) (k0_pay1 A.codes A.scales) A.ropes _ (ix3 b κ d)).trans ?_
  unfold Args.lane
  by_cases h : d.val < 512
  · rw [dif_pos h, ← key_apply]
    refine (dif_pos h).trans (congrArg (k0_pay1 A.codes A.scales) ?_)
    funext a; match a with
    | ⟨0, _⟩ => rfl
    | ⟨1, _⟩ => rfl
    | ⟨2, _⟩ => rfl
  · rw [dif_neg h]
    refine (dif_neg h).trans (congrArg A.ropes ?_)
    funext a; match a with
    | ⟨0, _⟩ => rfl
    | ⟨1, _⟩ => rfl
    | ⟨2, _⟩ => rfl

/-- The reference's first result. -/
theorem G3_eq : G3 A.codes A.scales A.ropes = A.keys := by
  funext i
  rw [eq_ix3 i]
  exact key_apply A (i 0) (i 1) (i 2)

/-- The reference's second result. -/
theorem G4_eq : G4 A.codes A.scales A.ropes = A.keysT := by
  funext i
  rw [eq_ix3 i]
  exact lane_apply A (i 0) (i 2) (i 1)

end Cert.KeysIdeal.Plain

end
-- ==== Proof.lean ====
/- The claims, assembled, of the kernel's two calls. The main call: it and its exact counterpart end and leave their arguments as they
   were; the exact counterpart differs from the kernel in three named constants only; and it computes the reference's three results. The
   preparing call: the same, with no constant named, for the dequantized keys and their transpose. -/
module

public import proofs.«01_k».proof.Defs
public import proofs.«01_k».proof.Proof.Gen.Kernel
public import proofs.«01_k».proof.Proof.FrameRun
public import proofs.«01_k».proof.Proof.Gen.KernelIdeal
public import proofs.«01_k».proof.Proof.Gen.KernelIdeal.Frame
public import proofs.«01_k».proof.Proof.Gen.KernelIdeal.Loops
public import proofs.«01_k».proof.Proof.Gen.ReferenceIdeal
public import proofs.«01_k».proof.Proof.Gen.ReferenceIdeal.Value
public import proofs.«01_k».proof.Proof.Gen.Prep
public import proofs.«01_k».proof.Proof.Gen.Prep.Frame
public import proofs.«01_k».proof.Proof.Gen.PrepIdeal
public import proofs.«01_k».proof.Proof.Gen.PrepIdeal.Value
public import proofs.«01_k».proof.Proof.Gen.KeysIdeal
public import proofs.«01_k».proof.Proof.Gen.KeysIdeal.Value
public import proofs.«01_k».proof.Proof.Arrays
public import proofs.«01_k».proof.Proof.Plain
public import proofs.«01_k».proof.Proof.Scale
public import proofs.«01_k».proof.Proof.DequantArrays
public import proofs.«01_k».proof.Proof.DequantPlain
public import Idealize.ShloMosaic.Adequacy
public import Idealize.ShloMosaic.Init

@[expose] public section

noncomputable section

namespace Cert.Proof

open Idealize.ShloMosaic Idealize.SL.Sem Idealize.ShloMosaic.TcCoe
open Cert.KernelIdeal.Parts (wholeAt)
open Cert.PrepIdeal.Dequant (argsAt)

/-- The named constants of the exact kernel are the real numbers whose roundings the kernel has. -/
theorem preserves : Cert.preserves_Kernel_KernelIdeal :=
  ⟨IdealRules.named_const.statement Cert.KernelIdeal.κ "scale_log2e" .f32 0x3DD53B95#32 (((Real.sqrt 192)⁻¹ * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "softmax_scale" .f32 0x3D93CD3A#32 (((Real.sqrt 192)⁻¹ : ℝ) : EReal) rfl⟩

/-- Under the precondition the scales of the output gradients are nonnegative and finite. -/
theorem finite (m : (ℓ : Loc Cert.KernelIdeal.nD Cert.KernelIdeal.τ Cert.KernelIdeal.sig) → Buf (Elt Ideal) ℓ)
    (h : Cert.Pre_KernelIdeal_scale_is_finite (hPre_scale_is_finite := Cert.Pre_scale_is_finite.facts) m) (c : Dev Cert.KernelIdeal.nD) :
    Cert.ReferenceIdeal.Plain.Finite (wholeAt m c) := fun b R =>
  haveI := Cert.Pre_scale_is_finite.facts
  Cert.Pre_scale_is_finite.scale_ok _ _ _ _ _ _ _ _ _ (h c) (ValueIdx.ix3 b 0 R)

/-- The exact kernel and the reference end with equal results. -/
theorem equal : Cert.algebraic_KernelIdeal_ReferenceIdeal_pre_scale_is_finite (hKernelIdeal := Cert.KernelIdeal.Gen.facts)
    (hReferenceIdeal := Cert.ReferenceIdeal.Gen.facts) (hPre_scale_is_finite := Cert.Pre_scale_is_finite.facts) := by
  intro m g m' g' hpre hargs
  refine ⟨fun c => (wholeAt m c).queries, fun c => (wholeAt m c).keys, fun c => (wholeAt m c).ropes, Cert.KernelIdeal.Parts.values m g, ?_⟩
  refine (θ_run _ _ _).mono (fun r h c => ?_) (Cert.ReferenceIdeal.Value.run m' g')
  obtain ⟨r0, r1, r2, hrest⟩ := h c
  obtain ⟨a0, a1, a2, a3, a4, a5, a6, a7, a8⟩ := hargs c
  have hf := finite m hpre c
  refine ⟨r0.trans ?_, r1.trans ?_, r2.trans ?_, hrest⟩
  · rw [a0, a1, a2, a3, a4, a5, a6, a7, a8]
    exact Cert.ReferenceIdeal.Plain.G9_eq (wholeAt m c) hf
  · rw [a0, a1, a2, a3, a4, a5, a6, a7, a8]
    exact Cert.ReferenceIdeal.Plain.G10_eq (wholeAt m c) hf
  · rw [a0, a1, a2, a3, a4, a5, a6, a7, a8]
    exact Cert.ReferenceIdeal.Plain.G11_eq (wholeAt m c) hf

/-- The preparing kernel's exact counterpart replaces no operation, and names no constant. -/
theorem keysPreserves : Cert.preserves_Prep_PrepIdeal := trivial

/-- The exact preparing kernel and its reference end with equal results. -/
theorem keysEqual : Cert.algebraic_PrepIdeal_KeysIdeal (hPrepIdeal := Cert.PrepIdeal.Gen.facts) (hKeysIdeal := Cert.KeysIdeal.Gen.facts) := by
  intro m g m' g' _ hargs
  refine ⟨fun c => (argsAt m c).keys, fun c => (argsAt m c).keysT, Cert.PrepIdeal.Dequant.values m g, ?_⟩
  refine (θ_run _ _ _).mono (fun r h c => ?_) (Cert.KeysIdeal.Value.run m' g')
  obtain ⟨r0, r1, hrest⟩ := h c
  obtain ⟨a0, a1, a2⟩ := hargs c
  refine ⟨r0.trans ?_, r1.trans ?_, hrest⟩
  · rw [a0, a1, a2]
    exact Cert.KeysIdeal.Plain.G3_eq (argsAt m c)
  · rw [a0, a1, a2]
    exact Cert.KeysIdeal.Plain.G4_eq (argsAt m c)

theorem claim : Cert.Claim :=
  ⟨Cert.Kernel.Gen.facts, Cert.KernelIdeal.Gen.facts, Cert.ReferenceIdeal.Gen.facts, Cert.Prep.Gen.facts, Cert.PrepIdeal.Gen.facts,
   Cert.KeysIdeal.Gen.facts, Cert.Pre_scale_is_finite.facts,
   fun m ρ _ => Cert.Kernel.Hand.frame m ρ, fun m ρ _ => Cert.KernelIdeal.Parts.frame m ρ, fun m ρ _ => Cert.KernelIdeal.Parts.frame m ρ,
   fun m ρ _ => Cert.ReferenceIdeal.Gen.frame m ρ, fun m ρ _ => Cert.ReferenceIdeal.Gen.frame m ρ,
   fun m ρ _ => Cert.Prep.Gen.frame m ρ, fun m ρ _ => Cert.PrepIdeal.Gen.frame m ρ, fun m ρ _ => Cert.KeysIdeal.Gen.frame m ρ,
   preserves, equal, keysPreserves, keysEqual⟩

end Cert.Proof

end
